-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13)
      ∧ r.2.mem ((c.tc : Thread Cert.Ffn.nD Cert.Ffn.τ).loc Cert.Ffn.main_arg14) = m ((c.tc : Thread Cert.Ffn.nD Cert.Ffn.τ).loc Cert.Ffn.main_arg14)
      ∧ r.2.mem ((c.tc : Thread Cert.Ffn.nD Cert.Ffn.τ).loc Cert.Ffn.main_arg15) = m ((c.tc : Thread Cert.Ffn.nD Cert.Ffn.τ).loc Cert.Ffn.main_arg15)
      ∧ r.2.mem ((c.tc : Thread Cert.Ffn.nD Cert.Ffn.τ).loc Cert.Ffn.main_arg16) = m ((c.tc : Thread Cert.Ffn.nD Cert.Ffn.τ).loc Cert.Ffn.main_arg16)
      ∧ r.2.mem ((c.tc : Thread Cert.Ffn.nD Cert.Ffn.τ).loc Cert.Ffn.main_arg17) = m ((c.tc : Thread Cert.Ffn.nD Cert.Ffn.τ).loc Cert.Ffn.main_arg17))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
      ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14)
      ∧ r.2.mem ((c.tc : Thread Cert.FfnIdeal.nD Cert.FfnIdeal.τ).loc Cert.FfnIdeal.main_arg15) = m ((c.tc : Thread Cert.FfnIdeal.nD Cert.FfnIdeal.τ).loc Cert.FfnIdeal.main_arg15)
      ∧ r.2.mem ((c.tc : Thread Cert.FfnIdeal.nD Cert.FfnIdeal.τ).loc Cert.FfnIdeal.main_arg16) = m ((c.tc : Thread Cert.FfnIdeal.nD Cert.FfnIdeal.τ).loc Cert.FfnIdeal.main_arg16)
      ∧ r.2.mem ((c.tc : Thread Cert.FfnIdeal.nD Cert.FfnIdeal.τ).loc Cert.FfnIdeal.main_arg17) = m ((c.tc : Thread Cert.FfnIdeal.nD Cert.FfnIdeal.τ).loc Cert.FfnIdeal.main_arg17))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11)
      ∧ r.2.mem ((c.tc : Thread Cert.FfnReferenceIdeal.nD Cert.FfnReferenceIdeal.τ).loc Cert.FfnReferenceIdeal.main_arg12) = m ((c.tc : Thread Cert.FfnReferenceIdeal.nD Cert.FfnReferenceIdeal.τ).loc Cert.FfnReferenceIdeal.main_arg12)
      ∧ r.2.mem ((c.tc : Thread Cert.FfnReferenceIdeal.nD Cert.FfnReferenceIdeal.τ).loc Cert.FfnReferenceIdeal.main_arg13) = m ((c.tc : Thread Cert.FfnReferenceIdeal.nD Cert.FfnReferenceIdeal.τ).loc Cert.FfnReferenceIdeal.main_arg13)
      ∧ r.2.mem ((c.tc : Thread Cert.FfnReferenceIdeal.nD Cert.FfnReferenceIdeal.τ).loc Cert.FfnReferenceIdeal.main_arg14) = m ((c.tc : Thread Cert.FfnReferenceIdeal.nD Cert.FfnReferenceIdeal.τ).loc Cert.FfnReferenceIdeal.main_arg14)
      ∧ r.2.mem ((c.tc : Thread Cert.FfnReferenceIdeal.nD Cert.FfnReferenceIdeal.τ).loc Cert.FfnReferenceIdeal.main_arg15) = m ((c.tc : Thread Cert.FfnReferenceIdeal.nD Cert.FfnReferenceIdeal.τ).loc Cert.FfnReferenceIdeal.main_arg15)
      ∧ r.2.mem ((c.tc : Thread Cert.FfnReferenceIdeal.nD Cert.FfnReferenceIdeal.τ).loc Cert.FfnReferenceIdeal.main_arg16) = m ((c.tc : Thread Cert.FfnReferenceIdeal.nD Cert.FfnReferenceIdeal.τ).loc Cert.FfnReferenceIdeal.main_arg16)
      ∧ r.2.mem ((c.tc : Thread Cert.FfnReferenceIdeal.nD Cert.FfnReferenceIdeal.τ).loc Cert.FfnReferenceIdeal.main_arg17) = m ((c.tc : Thread Cert.FfnReferenceIdeal.nD Cert.FfnReferenceIdeal.τ).loc Cert.FfnReferenceIdeal.main_arg17))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  IdealRules.named_const.Statement Cert.FfnIdeal.κ "cube" .f32 0x3D122279#32 ((80338380498831 / 2251799813685248 : ℝ) : EReal)

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)
      ∧ m' ((c.tc : Thread Cert.FfnReferenceIdeal.nD Cert.FfnReferenceIdeal.τ).loc Cert.FfnReferenceIdeal.main_arg11) = m ((c.tc : Thread Cert.FfnIdeal.nD Cert.FfnIdeal.τ).loc Cert.FfnIdeal.main_arg11)
      ∧ m' ((c.tc : Thread Cert.FfnReferenceIdeal.nD Cert.FfnReferenceIdeal.τ).loc Cert.FfnReferenceIdeal.main_arg12) = m ((c.tc : Thread Cert.FfnIdeal.nD Cert.FfnIdeal.τ).loc Cert.FfnIdeal.main_arg12)
      ∧ m' ((c.tc : Thread Cert.FfnReferenceIdeal.nD Cert.FfnReferenceIdeal.τ).loc Cert.FfnReferenceIdeal.main_arg13) = m ((c.tc : Thread Cert.FfnIdeal.nD Cert.FfnIdeal.τ).loc Cert.FfnIdeal.main_arg13)
      ∧ m' ((c.tc : Thread Cert.FfnReferenceIdeal.nD Cert.FfnReferenceIdeal.τ).loc Cert.FfnReferenceIdeal.main_arg14) = m ((c.tc : Thread Cert.FfnIdeal.nD Cert.FfnIdeal.τ).loc Cert.FfnIdeal.main_arg14)
      ∧ m' ((c.tc : Thread Cert.FfnReferenceIdeal.nD Cert.FfnReferenceIdeal.τ).loc Cert.FfnReferenceIdeal.main_arg15) = m ((c.tc : Thread Cert.FfnIdeal.nD Cert.FfnIdeal.τ).loc Cert.FfnIdeal.main_arg15)
      ∧ m' ((c.tc : Thread Cert.FfnReferenceIdeal.nD Cert.FfnReferenceIdeal.τ).loc Cert.FfnReferenceIdeal.main_arg16) = m ((c.tc : Thread Cert.FfnIdeal.nD Cert.FfnIdeal.τ).loc Cert.FfnIdeal.main_arg16)
      ∧ m' ((c.tc : Thread Cert.FfnReferenceIdeal.nD Cert.FfnReferenceIdeal.τ).loc Cert.FfnReferenceIdeal.main_arg17) = m ((c.tc : Thread Cert.FfnIdeal.nD Cert.FfnIdeal.τ).loc Cert.FfnIdeal.main_arg17)) →
    ∃ (v0 : (c : Dev Cert.FfnIdeal.nD) → Buf (Elt Ideal) ((c.tc : Thread Cert.FfnIdeal.nD Cert.FfnIdeal.τ).loc Cert.FfnIdeal.main_v33_0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v33_0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
          ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14)
          ∧ r.2.mem ((c.tc : Thread Cert.FfnIdeal.nD Cert.FfnIdeal.τ).loc Cert.FfnIdeal.main_arg15) = m ((c.tc : Thread Cert.FfnIdeal.nD Cert.FfnIdeal.τ).loc Cert.FfnIdeal.main_arg15)
          ∧ r.2.mem ((c.tc : Thread Cert.FfnIdeal.nD Cert.FfnIdeal.τ).loc Cert.FfnIdeal.main_arg16) = m ((c.tc : Thread Cert.FfnIdeal.nD Cert.FfnIdeal.τ).loc Cert.FfnIdeal.main_arg16)
          ∧ r.2.mem ((c.tc : Thread Cert.FfnIdeal.nD Cert.FfnIdeal.τ).loc Cert.FfnIdeal.main_arg17) = m ((c.tc : Thread Cert.FfnIdeal.nD Cert.FfnIdeal.τ).loc Cert.FfnIdeal.main_arg17))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v97) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10)
          ∧ r.2.mem ((c.tc : Thread Cert.FfnReferenceIdeal.nD Cert.FfnReferenceIdeal.τ).loc Cert.FfnReferenceIdeal.main_arg11) = m' ((c.tc : Thread Cert.FfnReferenceIdeal.nD Cert.FfnReferenceIdeal.τ).loc Cert.FfnReferenceIdeal.main_arg11)
          ∧ r.2.mem ((c.tc : Thread Cert.FfnReferenceIdeal.nD Cert.FfnReferenceIdeal.τ).loc Cert.FfnReferenceIdeal.main_arg12) = m' ((c.tc : Thread Cert.FfnReferenceIdeal.nD Cert.FfnReferenceIdeal.τ).loc Cert.FfnReferenceIdeal.main_arg12)
          ∧ r.2.mem ((c.tc : Thread Cert.FfnReferenceIdeal.nD Cert.FfnReferenceIdeal.τ).loc Cert.FfnReferenceIdeal.main_arg13) = m' ((c.tc : Thread Cert.FfnReferenceIdeal.nD Cert.FfnReferenceIdeal.τ).loc Cert.FfnReferenceIdeal.main_arg13)
          ∧ r.2.mem ((c.tc : Thread Cert.FfnReferenceIdeal.nD Cert.FfnReferenceIdeal.τ).loc Cert.FfnReferenceIdeal.main_arg14) = m' ((c.tc : Thread Cert.FfnReferenceIdeal.nD Cert.FfnReferenceIdeal.τ).loc Cert.FfnReferenceIdeal.main_arg14)
          ∧ r.2.mem ((c.tc : Thread Cert.FfnReferenceIdeal.nD Cert.FfnReferenceIdeal.τ).loc Cert.FfnReferenceIdeal.main_arg15) = m' ((c.tc : Thread Cert.FfnReferenceIdeal.nD Cert.FfnReferenceIdeal.τ).loc Cert.FfnReferenceIdeal.main_arg15)
          ∧ r.2.mem ((c.tc : Thread Cert.FfnReferenceIdeal.nD Cert.FfnReferenceIdeal.τ).loc Cert.FfnReferenceIdeal.main_arg16) = m' ((c.tc : Thread Cert.FfnReferenceIdeal.nD Cert.FfnReferenceIdeal.τ).loc Cert.FfnReferenceIdeal.main_arg16)
          ∧ r.2.mem ((c.tc : Thread Cert.FfnReferenceIdeal.nD Cert.FfnReferenceIdeal.τ).loc Cert.FfnReferenceIdeal.main_arg17) = m' ((c.tc : Thread Cert.FfnReferenceIdeal.nD Cert.FfnReferenceIdeal.τ).loc Cert.FfnReferenceIdeal.main_arg17))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
-- ==== Pre_finite_scores.lean ====
abbrev S16x2048x16x64 : Shape := ⟨4, ![16, 2048, 16, 64]⟩
abbrev S16x257 : Shape := ⟨2, ![16, 257]⟩
abbrev S_ : Shape := ⟨0, ![]⟩

class Facts : Prop where
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S16x2048x16x64 .f32) (main_arg1 : FVec F S16x2048x16x64 .f32) (main_arg2 : FVec F S16x2048x16x64 .f32) (main_arg3 : FVec F S16x257 .f32) : IVec S_ 1 :=
  let main_v0 : FVec F S16x2048x16x64 .f32 := Host.absf main_arg0
  let main_cst : FVec F S_ .f32 := constant S_ .f32 0x7F800000#32
  let main_v1 : FVec F S16x2048x16x64 .f32 := broadcastInDim S16x2048x16x64 ![] bcast_S_S16x2048x16x64 main_cst
  let main_v2 : IVec S16x2048x16x64 1 := cmpf .olt main_v0 main_v1
  let main_c : IVec S_ 1 := constantI S_ 1 1#1
  let main_v3 : IVec S_ 1 := (fun x v => Host.reduce IntOp.andi x v reducesTo_S16x2048x16x64_S_d0_1_2_3 h_S_) main_v2 main_c
  let main_v4 : FVec F S16x2048x16x64 .f32 := Host.absf main_arg1
  let main_cst_0 : FVec F S_ .f32 := constant S_ .f32 0x7F800000#32
  let main_v5 : FVec F S16x2048x16x64 .f32 := broadcastInDim S16x2048x16x64 ![] bcast_S_S16x2048x16x64 main_cst_0
  let main_v6 : IVec S16x2048x16x64 1 := cmpf .olt main_v4 main_v5
  let main_c_1 : IVec S_ 1 := constantI S_ 1 1#1
  let main_v7 : IVec S_ 1 := (fun x v => Host.reduce IntOp.andi x v reducesTo_S16x2048x16x64_S_d0_1_2_3 h_S_) main_v6 main_c_1
  let main_v8 : IVec S_ 1 := andi main_v3 main_v7
  let main_v9 : FVec F S16x257 .f32 := Host.absf main_arg3
  let main_cst_2 : FVec F S_ .f32 := constant S_ .f32 0x7F800000#32
  let main_v10 : FVec F S16x257 .f32 := broadcastInDim S16x257 ![] bcast_S_S16x257 main_cst_2
  let main_v11 : IVec S16x257 1 := cmpf .olt main_v9 main_v10
  let main_c_3 : IVec S_ 1 := constantI S_ 1 1#1
  let main_v12 : IVec S_ 1 := (fun x v => Host.reduce IntOp.andi x v reducesTo_S16x257_S_d0_1 h_S_) main_v11 main_c_3
  let main_v13 : IVec S_ 1 := andi main_v8 main_v12
  main_v13
-- ==== Kernel.lean ====
abbrev S16x2048x16x64 : Shape := ⟨4, ![16, 2048, 16, 64]⟩
abbrev S16x257 : Shape := ⟨2, ![16, 257]⟩
abbrev S16x2048x1024 : Shape := ⟨3, ![16, 2048, 1024]⟩
abbrev S_ : Shape := ⟨0, ![]⟩
abbrev S1023 : Shape := ⟨1, ![1023]⟩
abbrev S1023x1 : Shape := ⟨2, ![1023, 1]⟩
abbrev S16x1023 : Shape := ⟨2, ![16, 1023]⟩
abbrev S16x1024 : Shape := ⟨2, ![16, 1024]⟩
abbrev S16x769 : Shape := ⟨2, ![16, 769]⟩
abbrev S16x255 : Shape := ⟨2, ![16, 255]⟩
abbrev S16x1x1024 : Shape := ⟨3, ![16, 1, 1024]⟩
abbrev S16x256x768 : Shape := ⟨3, ![16, 256, 768]⟩
abbrev S1x1x1024 : Shape := ⟨3, ![1, 1, 1024]⟩
abbrev S1x256x768 : Shape := ⟨3, ![1, 256, 768]⟩
abbrev S1x1024 : Shape := ⟨2, ![1, 1024]⟩
abbrev S256x1024 : Shape := ⟨2, ![256, 1024]⟩
abbrev S256x768 : Shape := ⟨2, ![256, 768]⟩
abbrev S1x2048x256 : Shape := ⟨3, ![1, 2048, 256]⟩
abbrev S4x256x768 : Shape := ⟨3, ![4, 256, 768]⟩
abbrev S2560x256 : Shape := ⟨2, ![2560, 256]⟩
abbrev S2048x256 : Shape := ⟨2, ![2048, 256]⟩
abbrev S256x128 : Shape := ⟨2, ![256, 128]⟩
abbrev S256x256 : Shape := ⟨2, ![256, 256]⟩
abbrev S1x256x256 : Shape := ⟨3, ![1, 256, 256]⟩
abbrev S512x128 : Shape := ⟨2, ![512, 128]⟩
abbrev S512x256 : Shape := ⟨2, ![512, 256]⟩
abbrev S2x256x256 : Shape := ⟨3, ![2, 256, 256]⟩
abbrev S512 : Shape := ⟨1, ![512]⟩
abbrev S512x1 : Shape := ⟨2, ![512, 1]⟩
abbrev S512x512 : Shape := ⟨2, ![512, 512]⟩
abbrev S2x256x512 : Shape := ⟨3, ![2, 256, 512]⟩
abbrev S768x256 : Shape := ⟨2, ![768, 256]⟩
abbrev S768x128 : Shape := ⟨2, ![768, 128]⟩
abbrev S512x768 : Shape := ⟨2, ![512, 768]⟩
abbrev S2x256x768 : Shape := ⟨3, ![2, 256, 768]⟩

abbrev nBuf : Space → Nat
  | .hbm => 46
  | .vmem => 16
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x16x64, .f32⟩
  | .hbm, ⟨2, _⟩ => ⟨S16x2048x16x64, .f32⟩
  | .hbm, ⟨3, _⟩ => ⟨S16x257, .f32⟩
  | .hbm, ⟨4, _⟩ => ⟨S16x2048x1024, .f32⟩
  | .hbm, ⟨5, _⟩ => ⟨S_, .f32⟩
  | .hbm, ⟨6, _⟩ => ⟨S16x2048x1024, .f32⟩
  | .hbm, ⟨7, _⟩ => ⟨S16x2048x1024, .f32⟩
  | .hbm, ⟨8, _⟩ => ⟨S16x2048x1024, .bf16⟩
  | .hbm, ⟨9, _⟩ => ⟨S1023, .i32⟩
  | .hbm, ⟨10, _⟩ => ⟨S_, .i32⟩
  | .hbm, ⟨11, _⟩ => ⟨S1023, .i32⟩
  | .hbm, ⟨12, _⟩ => ⟨S1023, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1023, .i32⟩
  | .hbm, ⟨17, _⟩ => ⟨S1023, .i32⟩
  | .hbm, ⟨18, _⟩ => ⟨S_, .i32⟩
  | .hbm, ⟨19, _⟩ => ⟨S1023, .i32⟩
  | .hbm, ⟨20, _⟩ => ⟨S1023, .i32⟩
  | .hbm, ⟨21, _⟩ => ⟨S_, .i32⟩
  | .hbm, ⟨22, _⟩ => ⟨S1023, .i32⟩
  | .hbm, ⟨23, _⟩ => ⟨S1023, .i32⟩
  | .hbm, ⟨24, _⟩ => ⟨S_, .i32⟩
  | .hbm, ⟨25, _⟩ => ⟨S1023, .i32⟩
  | .hbm, ⟨26, _⟩ => ⟨S1023, .i1⟩
  | .hbm, ⟨27, _⟩ => ⟨S_, .i32⟩
  | .hbm, ⟨28, _⟩ => ⟨S1023, .i32⟩
  | .hbm, ⟨29, _⟩ => ⟨S1023, .i32⟩
  | .hbm, ⟨30, _⟩ => ⟨S1023, .i32⟩
  | .hbm, ⟨31, _⟩ => ⟨S1023x1, .i32⟩
  | .hbm, ⟨32, _⟩ => ⟨S16x1023, .f32⟩
  | .hbm, ⟨33, _⟩ => ⟨S_, .i32⟩
  | .hbm, ⟨34, _⟩ => ⟨S_, .f32⟩
  | .hbm, ⟨35, _⟩ => ⟨S16x1024, .f32⟩
  | .hbm, ⟨36, _⟩ => ⟨S16x769, .f32⟩
  | .hbm, ⟨37, _⟩ => ⟨S16x255, .f32⟩
  | .hbm, ⟨38, _⟩ => ⟨S16x1024, .f32⟩
  | .hbm, ⟨39, _⟩ => ⟨S16x1x1024, .f32⟩
  | .hbm, ⟨40, _⟩ => ⟨S16x256x768, .f32⟩
  | .hbm, ⟨41, _⟩ => ⟨S16x2048x1024, .f32⟩
  | .hbm, ⟨42, _⟩ => ⟨S16x2048x1024, .bf16⟩
  | .hbm, ⟨43, _⟩ => ⟨S16x2048x1024, .f32⟩
  | .hbm, ⟨44, _⟩ => ⟨S16x2048x1024, .bf16⟩
  | .hbm, ⟨45, _⟩ => ⟨S16x2048x1024, .bf16⟩
  | .local _ .vmem, ⟨0, _⟩ => ⟨S1x1x1024, .f32⟩
  | .local _ .vmem, ⟨1, _⟩ => ⟨S1x1x1024, .f32⟩
  | .local _ .vmem, ⟨2, _⟩ => ⟨S1x256x768, .f32⟩
  | .local _ .vmem, ⟨3, _⟩ => ⟨S1x256x768, .f32⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S4x256x768, .f32⟩
  | .local _ .vmem, ⟨11, _⟩ => ⟨S4x256x768, .f32⟩
  | .local _ .vmem, ⟨12, _⟩ => ⟨S1x2048x256, .bf16⟩
  | .local _ .vmem, ⟨13, _⟩ => ⟨S1x2048x256, .bf16⟩
  | .local _ .vmem, ⟨14, _⟩ => ⟨S2560x256, .bf16⟩
  | .local _ .vmem, ⟨15, _⟩ => ⟨S2560x256, .bf16⟩
  | _, _ => ⟨S16x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_call1_v0 : Ref sig .tc := ⟨.hbm, 34, rfl⟩
abbrev main_v17 : Ref sig .tc := ⟨.hbm, 35, rfl⟩
abbrev main_call2_v0 : Ref sig .tc := ⟨.hbm, 36, rfl⟩
abbrev main_call2_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 4], ![false, false]⟩

def k1_mult1 : BitVec 32 :=
  let c2_i32 : BitVec 32 := 2#32
  let c0_i32 : BitVec 32 := 0#32
  let c6_i32 : BitVec 32 := 6#32
  let v139 : BitVec 32 := Scalar.muli c0_i32 c6_i32
  let v140 : BitVec 32 := Scalar.addi c2_i32 v139
  let c0_i32_61 : BitVec 32 := 0#32
  let v141 : BitVec 32 := Scalar.addi v140 c0_i32_61
  let c256_i32 : BitVec 32 := 256#32
  let v142 : BitVec 32 := Scalar.muli v141 c256_i32
  v142
def k1_off1 (c0_i32_61 : BitVec 32) : Fin 2 → Nat :=
  let c2_i32 : BitVec 32 := 2#32
  let c0_i32 : BitVec 32 := 0#32
  let c6_i32 : BitVec 32 := 6#32
  let v139 : BitVec 32 := Scalar.muli c0_i32 c6_i32
  let v140 : BitVec 32 := Scalar.addi c2_i32 v139
  let v141 : BitVec 32 := Scalar.addi v140 c0_i32_61
  let c256_i32 : BitVec 32 := 256#32
  let v142 : BitVec 32 := Scalar.muli v141 c256_i32
  let v143 : BitVec 32 := v142
  let c0_i32_62 : BitVec 32 := 0#32
  let v144 : BitVec 32 := Scalar.addi v143 c0_i32_62
  let v145 : Index := Scalar.indexCast v144
  let c0_63 : Index := 0#32
  ![v145.toNat, 0]
def k1_off2 (c0_i32_61 : BitVec 32) : Fin 3 → Nat :=
  let c0_66 : Index := 0#32
  let c2_i32 : BitVec 32 := 2#32
  let c0_i32 : BitVec 32 := 0#32
  let c6_i32 : BitVec 32 := 6#32
  let v139 : BitVec 32 := Scalar.muli c0_i32 c6_i32
  let v140 : BitVec 32 := Scalar.addi c2_i32 v139
  let v141 : BitVec 32 := Scalar.addi v140 c0_i32_61
  let c256_i32 : BitVec 32 := 256#32
  let v142 : BitVec 32 := Scalar.muli v141 c256_i32
  let v143 : BitVec 32 := v142
  let v150 : Index := Scalar.indexCast v143
  let c0_67 : Index := 0#32
  ![0, v150.toNat, 0]
def k1_mult2 : BitVec 32 :=
  let c2_i32_89 : BitVec 32 := 2#32
  let c0_i32 : BitVec 32 := 0#32
  let c6_i32_88 : BitVec 32 := 6#32
  let v213 : BitVec 32 := Scalar.muli c0_i32 c6_i32_88
  let v214 : BitVec 32 := Scalar.addi c2_i32_89 v213
  let c1_i32 : BitVec 32 := 1#32
  let v215 : BitVec 32 := Scalar.addi v214 c1_i32
  let c256_i32_90 : BitVec 32 := 256#32
  let v216 : BitVec 32 := Scalar.muli v215 c256_i32_90
  v216
def k1_mult3 : BitVec 32 :=
  let c2_i32_118 : BitVec 32 := 2#32
  let c0_i32 : BitVec 32 := 0#32
  let c6_i32_117 : BitVec 32 := 6#32
  let v287 : BitVec 32 := Scalar.muli c0_i32 c6_i32_117
  let v288 : BitVec 32 := Scalar.addi c2_i32_118 v287
  let c2_i32_119 : BitVec 32 := 2#32
  let v289 : BitVec 32 := Scalar.addi v288 c2_i32_119
  let c256_i32_120 : BitVec 32 := 256#32
  let v290 : BitVec 32 := Scalar.muli v289 c256_i32_120
  v290
def k1_mult4 : BitVec 32 :=
  let c2_i32_148 : BitVec 32 := 2#32
  let c0_i32 : BitVec 32 := 0#32
  let c6_i32_147 : BitVec 32 := 6#32
  let v361 : BitVec 32 := Scalar.muli c0_i32 c6_i32_147
  let v362 : BitVec 32 := Scalar.addi c2_i32_148 v361
  let c3_i32 : BitVec 32 := 3#32
  let v363 : BitVec 32 := Scalar.addi v362 c3_i32
  let c256_i32_149 : BitVec 32 := 256#32
  let v364 : BitVec 32 := Scalar.muli v363 c256_i32_149
  v364
def k1_mult5 : BitVec 32 :=
  let c2_i32_177 : BitVec 32 := 2#32
  let c0_i32 : BitVec 32 := 0#32
  let c6_i32_176 : BitVec 32 := 6#32
  let v435 : BitVec 32 := Scalar.muli c0_i32 c6_i32_176
  let v436 : BitVec 32 := Scalar.addi c2_i32_177 v435
  let c4_i32 : BitVec 32 := 4#32
  let v437 : BitVec 32 := Scalar.addi v436 c4_i32
  let c256_i32_178 : BitVec 32 := 256#32
  let v438 : BitVec 32 := Scalar.muli v437 c256_i32_178
  v438
def k1_mult6 : BitVec 32 :=
  let c2_i32_206 : BitVec 32 := 2#32
  let c0_i32 : BitVec 32 := 0#32
  let c6_i32_205 : BitVec 32 := 6#32
  let v509 : BitVec 32 := Scalar.muli c0_i32 c6_i32_205
  let v510 : BitVec 32 := Scalar.addi c2_i32_206 v509
  let c5_i32 : BitVec 32 := 5#32
  let v511 : BitVec 32 := Scalar.addi v510 c5_i32
  let c256_i32_207 : BitVec 32 := 256#32
  let v512 : BitVec 32 := Scalar.muli v511 c256_i32_207
  v512
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S16x2048x16x64 : Shape := ⟨4, ![16, 2048, 16, 64]⟩
abbrev S16x257 : Shape := ⟨2, ![16, 257]⟩
abbrev S_ : Shape := ⟨0, ![]⟩
abbrev S16x2560x16x64 : Shape := ⟨4, ![16, 2560, 16, 64]⟩
abbrev S16x32x64x16x64 : Shape := ⟨5, ![16, 32, 64, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S32 : Shape := ⟨1, ![32]⟩
abbrev S32x1 : Shape := ⟨2, ![32, 1]⟩
abbrev S32x576 : Shape := ⟨2, ![32, 576]⟩
abbrev S32x576x1 : Shape := ⟨3, ![32, 576, 1]⟩
abbrev S16x32x576x16x64 : Shape := ⟨5, ![16, 32, 576, 16, 64]⟩
abbrev S32x1x1x576 : Shape := ⟨4, ![32, 1, 1, 576]⟩
abbrev S1x16x64x576 : Shape := ⟨4, ![1, 16, 64, 576]⟩
abbrev S32x16x64x576 : Shape := ⟨4, ![32, 16, 64, 576]⟩
abbrev S16x32x16x64x576 : Shape := ⟨5, ![16, 32, 16, 64, 576]⟩
abbrev S1x32x16x64x576 : Shape := ⟨5, ![1, 32, 16, 64, 576]⟩
abbrev S16x32x16x64 : Shape := ⟨4, ![16, 32, 16, 64]⟩
abbrev S16x32x16x64x1 : Shape := ⟨5, ![16, 32, 16, 64, 1]⟩
abbrev S16x32x16x64x64 : Shape := ⟨5, ![16, 32, 16, 64, 64]⟩
abbrev S16x2048x1024 : Shape := ⟨3, ![16, 2048, 1024]⟩

abbrev nBuf : Space → Nat
  | .hbm => 108
  | .vmem => 0
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x16x64, .f32⟩
  | .hbm, ⟨2, _⟩ => ⟨S16x2048x16x64, .f32⟩
  | .hbm, ⟨3, _⟩ => ⟨S16x257, .f32⟩
  | .hbm, ⟨4, _⟩ => ⟨S_, .i32⟩
  | .hbm, ⟨5, _⟩ => ⟨S_, .f32⟩
  | .hbm, ⟨6, _⟩ => ⟨S16x2560x16x64, .f32⟩
  | .hbm, ⟨7, _⟩ => ⟨S_, .i32⟩
  | .hbm, ⟨8, _⟩ => ⟨S_, .f32⟩
  | .hbm, ⟨9, _⟩ => ⟨S16x2560x16x64, .f32⟩
  | .hbm, ⟨10, _⟩ => ⟨S16x32x64x16x64, .f32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S576, .i32⟩
  | .hbm, ⟨17, _⟩ => ⟨S1x576, .i32⟩
  | .hbm, ⟨18, _⟩ => ⟨S64x576, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S64x576, .i32⟩
  | .hbm, ⟨28, _⟩ => ⟨S64x576, .i32⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S_, .i32⟩
  | .hbm, ⟨33, _⟩ => ⟨S64x576, .i32⟩
  | .hbm, ⟨34, _⟩ => ⟨S64x576, .i1⟩
  | .hbm, ⟨35, _⟩ => ⟨S_, .i32⟩
  | .hbm, ⟨36, _⟩ => ⟨S64x576, .i32⟩
  | .hbm, ⟨37, _⟩ => ⟨S64x576, .i32⟩
  | .hbm, ⟨38, _⟩ => ⟨S64x576, .i32⟩
  | .hbm, ⟨39, _⟩ => ⟨S64x576x1, .i32⟩
  | .hbm, ⟨40, _⟩ => ⟨S16x64x576, .f32⟩
  | .hbm, ⟨41, _⟩ => ⟨S32, .i32⟩
  | .hbm, ⟨42, _⟩ => ⟨S_, .i32⟩
  | .hbm, ⟨43, _⟩ => ⟨S32, .i32⟩
  | .hbm, ⟨44, _⟩ => ⟨S32, .i32⟩
  | .hbm, ⟨45, _⟩ => ⟨S32x1, .i32⟩
  | .hbm, ⟨46, _⟩ => ⟨S576, .i32⟩
  | .hbm, ⟨47, _⟩ => ⟨S1x576, .i32⟩
  | .hbm, ⟨48, _⟩ => ⟨S32x576, .i32⟩
  | .hbm, ⟨49, _⟩ => ⟨S32x576, .i32⟩
  | .hbm, ⟨50, _⟩ => ⟨S32x576, .i32⟩
  | .hbm, ⟨51, _⟩ => ⟨S_, .i32⟩
  | .hbm, ⟨52, _⟩ => ⟨S32x576, .i32⟩
  | .hbm, ⟨53, _⟩ => ⟨S32x576, .i1⟩
  | .hbm, ⟨54, _⟩ => ⟨S_, .i32⟩
  | .hbm, ⟨55, _⟩ => ⟨S32x576, .i32⟩
  | .hbm, ⟨56, _⟩ => ⟨S32x576, .i32⟩
  | .hbm, ⟨57, _⟩ => ⟨S32x576, .i32⟩
  | .hbm, ⟨58, _⟩ => ⟨S32x576x1, .i32⟩
  | .hbm, ⟨59, _⟩ => ⟨S16x32x576x16x64, .f32⟩
  | .hbm, ⟨60, _⟩ => ⟨S_, .i32⟩
  | .hbm, ⟨61, _⟩ => ⟨S32x576, .i32⟩
  | .hbm, ⟨62, _⟩ => ⟨S32x576, .i1⟩
  | .hbm, ⟨63, _⟩ => ⟨S_, .i32⟩
  | .hbm, ⟨64, _⟩ => ⟨S32x576, .i32⟩
  | .hbm, ⟨65, _⟩ => ⟨S32x576, .i32⟩
  | .hbm, ⟨66, _⟩ => ⟨S32x576, .i32⟩
  | .hbm, ⟨67, _⟩ => ⟨S32x576x1, .i32⟩
  | .hbm, ⟨68, _⟩ => ⟨S16x32x576x16x64, .f32⟩
  | .hbm, ⟨69, _⟩ => ⟨S_, .i32⟩
  | .hbm, ⟨70, _⟩ => ⟨S32x576, .i32⟩
  | .hbm, ⟨71, _⟩ => ⟨S32x576, .i32⟩
  | .hbm, ⟨72, _⟩ => ⟨S_, .i32⟩
  | .hbm, ⟨73, _⟩ => ⟨S32x576, .i32⟩
  | .hbm, ⟨74, _⟩ => ⟨S32x576, .i1⟩
  | .hbm, ⟨75, _⟩ => ⟨S32x1x1x576, .i1⟩
  | .hbm, ⟨76, _⟩ => ⟨S1x16x64x576, .f32⟩
  | .hbm, ⟨77, _⟩ => ⟨S_, .f32⟩
  | .hbm, ⟨78, _⟩ => ⟨S_, .f32⟩
  | .hbm, ⟨79, _⟩ => ⟨S32x16x64x576, .i1⟩
  | .hbm, ⟨80, _⟩ => ⟨S32x16x64x576, .f32⟩
  | .hbm, ⟨81, _⟩ => ⟨S32x16x64x576, .f32⟩
  | .hbm, ⟨82, _⟩ => ⟨S32x16x64x576, .f32⟩
  | .hbm, ⟨83, _⟩ => ⟨S16x32x16x64x576, .f32⟩
  | .hbm, ⟨84, _⟩ => ⟨S_, .f32⟩
  | .hbm, ⟨85, _⟩ => ⟨S16x32x16x64x576, .f32⟩
  | .hbm, ⟨86, _⟩ => ⟨S16x32x16x64x576, .f32⟩
  | .hbm, ⟨87, _⟩ => ⟨S1x32x16x64x576, .f32⟩
  | .hbm, ⟨88, _⟩ => ⟨S16x32x16x64x576, .f32⟩
  | .hbm, ⟨89, _⟩ => ⟨S16x32x16x64x576, .f32⟩
  | .hbm, ⟨90, _⟩ => ⟨S_, .f32⟩
  | .hbm, ⟨91, _⟩ => ⟨S16x32x16x64, .f32⟩
  | .hbm, ⟨92, _⟩ => ⟨S_, .f32⟩
  | .hbm, ⟨93, _⟩ => ⟨S16x32x16x64, .f32⟩
  | .hbm, ⟨94, _⟩ => ⟨S16x32x16x64, .f32⟩
  | .hbm, ⟨95, _⟩ => ⟨S16x32x16x64x1, .f32⟩
  | .hbm, ⟨96, _⟩ => ⟨S16x32x16x64x576, .f32⟩
  | .hbm, ⟨97, _⟩ => ⟨S16x32x16x64x576, .f32⟩
  | .hbm, ⟨98, _⟩ => ⟨S16x32x16x64x576, .f32⟩
  | .hbm, ⟨99, _⟩ => ⟨S_, .f32⟩
  | .hbm, ⟨100, _⟩ => ⟨S16x32x16x64, .f32⟩
  | .hbm, ⟨101, _⟩ => ⟨S16x32x16x64x1, .f32⟩
  | .hbm, ⟨102, _⟩ => ⟨S16x32x16x64x576, .f32⟩
  | .hbm, ⟨103, _⟩ => ⟨S16x32x16x64x576, .f32⟩
  | .hbm, ⟨104, _⟩ => ⟨S16x32x16x64x64, .f32⟩
  | .hbm, ⟨105, _⟩ => ⟨S16x32x64x16x64, .f32⟩
  | .hbm, ⟨106, _⟩ => ⟨S16x2048x1024, .f32⟩
  | .hbm, ⟨107, _⟩ => ⟨S16x2048x1024, .bf16⟩
  | _, _ => ⟨S16x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_c_3 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_c_6 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_12 : Ref sig .tc := ⟨.hbm, 69, rfl⟩
abbrev main_v45 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_v51 : Ref sig .tc := ⟨.hbm, 82, rfl⟩
abbrev main_v52 : Ref sig .tc := ⟨.hbm, 83, rfl⟩
abbrev main_cst_14 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_15 : Ref sig .tc := ⟨.hbm, 90, rfl⟩
abbrev main_v58 : Ref sig .tc := ⟨.hbm, 91, rfl⟩
abbrev main_cst_16 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_17 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== Ffn.lean ====
abbrev S16x2048x1024 : Shape := ⟨3, ![16, 2048, 1024]⟩
abbrev S16x2048x2048 : Shape := ⟨3, ![16, 2048, 2048]⟩
abbrev S16x2048x256 : Shape := ⟨3, ![16, 2048, 256]⟩
abbrev S16x2x6144 : Shape := ⟨3, ![16, 2, 6144]⟩
abbrev S2048 : Shape := ⟨1, ![2048]⟩
abbrev S1024x1024 : Shape := ⟨2, ![1024, 1024]⟩
abbrev S2048x1024 : Shape := ⟨2, ![2048, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S256x1024 : Shape := ⟨2, ![256, 1024]⟩
abbrev S_ : Shape := ⟨0, ![]⟩
abbrev S1x6144 : Shape := ⟨2, ![1, 6144]⟩
abbrev S1x2048 : Shape := ⟨2, ![1, 2048]⟩
abbrev S1x1024 : Shape := ⟨2, ![1, 1024]⟩
abbrev S8x6144 : Shape := ⟨2, ![8, 6144]⟩
abbrev S32768x1024 : Shape := ⟨2, ![32768, 1024]⟩
abbrev S32768x2048 : Shape := ⟨2, ![32768, 2048]⟩
abbrev S32768x256 : Shape := ⟨2, ![32768, 256]⟩
abbrev S16x1x6144 : Shape := ⟨3, ![16, 1, 6144]⟩
abbrev S16x8x6144 : Shape := ⟨3, ![16, 8, 6144]⟩
abbrev S16x16x6144 : Shape := ⟨3, ![16, 16, 6144]⟩
abbrev S256x2048 : Shape := ⟨2, ![256, 2048]⟩
abbrev S256x256 : Shape := ⟨2, ![256, 256]⟩
abbrev S1x16x6144 : Shape := ⟨3, ![1, 16, 6144]⟩
abbrev S1x8x6144 : Shape := ⟨3, ![1, 8, 6144]⟩
abbrev S2x1x8x6144 : Shape := ⟨4, ![2, 1, 8, 6144]⟩
abbrev S1x1x8x6144 : Shape := ⟨4, ![1, 1, 8, 6144]⟩
abbrev S256 : Shape := ⟨1, ![256]⟩
abbrev S256x1 : Shape := ⟨2, ![256, 1]⟩
abbrev S32x8x1024 : Shape := ⟨3, ![32, 8, 1024]⟩
abbrev S1x1x8x1024 : Shape := ⟨4, ![1, 1, 8, 1024]⟩
abbrev S8x1024 : Shape := ⟨2, ![8, 1024]⟩
abbrev S248x1024 : Shape := ⟨2, ![248, 1024]⟩

abbrev nBuf : Space → Nat
  | .hbm => 64
  | .vmem => 29
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x2048, .f32⟩
  | .hbm, ⟨3, _⟩ => ⟨S16x2048x2048, .f32⟩
  | .hbm, ⟨4, _⟩ => ⟨S16x2048x256, .f32⟩
  | .hbm, ⟨5, _⟩ => ⟨S16x2x6144, .f32⟩
  | .hbm, ⟨6, _⟩ => ⟨S2048, .f32⟩
  | .hbm, ⟨7, _⟩ => ⟨S1024x1024, .f32⟩
  | .hbm, ⟨8, _⟩ => ⟨S2048x1024, .f32⟩
  | .hbm, ⟨9, _⟩ => ⟨S1024x1024, .f32⟩
  | .hbm, ⟨10, _⟩ => ⟨S1024, .f32⟩
  | .hbm, ⟨11, _⟩ => ⟨S1024x6144, .f32⟩
  | .hbm, ⟨12, _⟩ => ⟨S3x6144, .f32⟩
  | .hbm, ⟨13, _⟩ => ⟨S6144, .f32⟩
  | .hbm, ⟨14, _⟩ => ⟨S3072x1024, .f32⟩
  | .hbm, ⟨15, _⟩ => ⟨S1024, .f32⟩
  | .hbm, ⟨16, _⟩ => ⟨S1024x1024, .f32⟩
  | .hbm, ⟨17, _⟩ => ⟨S256x1024, .f32⟩
  | .hbm, ⟨18, _⟩ => ⟨S6144, .i32⟩
  | .hbm, ⟨19, _⟩ => ⟨S_, .i32⟩
  | .hbm, ⟨20, _⟩ => ⟨S6144, .i32⟩
  | .hbm, ⟨21, _⟩ => ⟨S6144, .i1⟩
  | .hbm, ⟨22, _⟩ => ⟨S_, .f32⟩
  | .hbm, ⟨23, _⟩ => ⟨S_, .f32⟩
  | .hbm, ⟨24, _⟩ => ⟨S6144, .f32⟩
  | .hbm, ⟨25, _⟩ => ⟨S6144, .f32⟩
  | .hbm, ⟨26, _⟩ => ⟨S6144, .f32⟩
  | .hbm, ⟨27, _⟩ => ⟨S6144, .f32⟩
  | .hbm, ⟨28, _⟩ => ⟨S1x6144, .f32⟩
  | .hbm, ⟨29, _⟩ => ⟨S1x2048, .f32⟩
  | .hbm, ⟨30, _⟩ => ⟨S1024x1024, .bf16⟩
  | .hbm, ⟨31, _⟩ => ⟨S2048x1024, .bf16⟩
  | .hbm, ⟨32, _⟩ => ⟨S1024x1024, .bf16⟩
  | .hbm, ⟨33, _⟩ => ⟨S1x1024, .f32⟩
  | .hbm, ⟨34, _⟩ => ⟨S1024x6144, .bf16⟩
  | .hbm, ⟨35, _⟩ => ⟨S3x6144, .f32⟩
  | .hbm, ⟨36, _⟩ => ⟨S3x6144, .f32⟩
  | .hbm, ⟨37, _⟩ => ⟨S_, .i32⟩
  | .hbm, ⟨38, _⟩ => ⟨S_, .f32⟩
  | .hbm, ⟨39, _⟩ => ⟨S8x6144, .f32⟩
  | .hbm, ⟨40, _⟩ => ⟨S1x6144, .f32⟩
  | .hbm, ⟨41, _⟩ => ⟨S1x6144, .f32⟩
  | .hbm, ⟨42, _⟩ => ⟨S3072x1024, .bf16⟩
  | .hbm, ⟨43, _⟩ => ⟨S1x1024, .f32⟩
  | .hbm, ⟨44, _⟩ => ⟨S1024x1024, .bf16⟩
  | .hbm, ⟨45, _⟩ => ⟨S256x1024, .bf16⟩
  | .hbm, ⟨46, _⟩ => ⟨S32768x1024, .f32⟩
  | .hbm, ⟨47, _⟩ => ⟨S32768x1024, .f32⟩
  | .hbm, ⟨48, _⟩ => ⟨S32768x1024, .bf16⟩
  | .hbm, ⟨49, _⟩ => ⟨S32768x2048, .f32⟩
  | .hbm, ⟨50, _⟩ => ⟨S32768x2048, .bf16⟩
  | .hbm, ⟨51, _⟩ => ⟨S32768x2048, .f32⟩
  | .hbm, ⟨52, _⟩ => ⟨S32768x2048, .bf16⟩
  | .hbm, ⟨53, _⟩ => ⟨S32768x256, .f32⟩
  | .hbm, ⟨54, _⟩ => ⟨S16x1x6144, .f32⟩
  | .hbm, ⟨55, _⟩ => ⟨S_, .i32⟩
  | .hbm, ⟨56, _⟩ => ⟨S_, .f32⟩
  | .hbm, ⟨57, _⟩ => ⟨S16x8x6144, .f32⟩
  | .hbm, ⟨58, _⟩ => ⟨S_, .i32⟩
  | .hbm, ⟨59, _⟩ => ⟨S_, .f32⟩
  | .hbm, ⟨60, _⟩ => ⟨S16x8x6144, .f32⟩
  | .hbm, ⟨61, _⟩ => ⟨S16x16x6144, .f32⟩
  | .hbm, ⟨62, _⟩ => ⟨S32768x1024, .f32⟩
  | .hbm, ⟨63, _⟩ => ⟨S16x8x6144, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x256, .f32⟩
  | .local _ .vmem, ⟨9, _⟩ => ⟨S256x256, .f32⟩
  | .local _ .vmem, ⟨10, _⟩ => ⟨S1x16x6144, .f32⟩
  | .local _ .vmem, ⟨11, _⟩ => ⟨S1x16x6144, .f32⟩
  | .local _ .vmem, ⟨12, _⟩ => ⟨S1x2048, .f32⟩
  | .local _ .vmem, ⟨13, _⟩ => ⟨S1024x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x6144, .bf16⟩
  | .local _ .vmem, ⟨18, _⟩ => ⟨S8x6144, .f32⟩
  | .local _ .vmem, ⟨19, _⟩ => ⟨S1x6144, .f32⟩
  | .local _ .vmem, ⟨20, _⟩ => ⟨S3072x1024, .bf16⟩
  | .local _ .vmem, ⟨21, _⟩ => ⟨S1x1024, .f32⟩
  | .local _ .vmem, ⟨22, _⟩ => ⟨S1024x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S1x8x6144, .f32⟩
  | .local _ .vmem, ⟨27, _⟩ => ⟨S1x8x6144, .f32⟩
  | .local _ .vmem, ⟨28, _⟩ => ⟨S2x1x8x6144, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_call1_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_2 : Ref sig .tc := ⟨.hbm, 55, rfl⟩
abbrev main_call2_v0 : Ref sig .tc := ⟨.hbm, 56, rfl⟩
abbrev main_v30 : Ref sig .tc := ⟨.hbm, 57, rfl⟩
abbrev main_c_3 : Ref sig .tc := ⟨.hbm, 58, rfl⟩
abbrev main_call3_v0 : Ref sig .tc := ⟨.hbm, 59, rfl⟩
abbrev main_v31 : Ref sig .tc := ⟨.hbm, 60, rfl⟩
abbrev main_v32 : Ref sig .tc := ⟨.hbm, 61, rfl⟩
abbrev main_v33_0 : Ref sig .tc := ⟨.hbm, 62, rfl⟩
abbrev main_v33_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c8_i32_230 : BitVec 32 := 8#32
  let c0_i32_231 : BitVec 32 := 0#32
  let v418 : BitVec 1 := Scalar.cmpi .eq c8_i32_230 c0_i32_231
  let c1_i32_232 : BitVec 32 := 1#32
  let v419 : BitVec 32 := Scalar.select v418 c1_i32_232 c8_i32_230
  let v420 : BitVec 32 := Scalar.remsi arg0 v419
  let c0_i32_234 : BitVec 32 := 0#32
  let v422 : BitVec 1 := Scalar.cmpi .slt v420 c0_i32_234
  let c0_i32_235 : BitVec 32 := 0#32
  let v423 : BitVec 1 := Scalar.cmpi .slt v419 c0_i32_235
  let v424 : BitVec 1 := Scalar.xori v422 v423
  let c0_i32_233 : BitVec 32 := 0#32
  let v421 : BitVec 1 := Scalar.cmpi .ne v420 c0_i32_233
  let v425 : BitVec 1 := Scalar.andi v424 v421
  let v426 : BitVec 32 := Scalar.addi v420 v419
  let v427 : BitVec 32 := Scalar.select v425 v426 v420
  let c7_i32 : BitVec 32 := 7#32
  let v428 : BitVec 1 := Scalar.cmpi .eq v427 c7_i32
  let v429 : BitVec 32 := Scalar.extui v428
  let c0_i32_236 : BitVec 32 := 0#32
  let v430 : BitVec 1 := Scalar.cmpi .ne v429 c0_i32_236
  v430

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x6144 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3072x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x6144 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== FfnIdeal.lean ====
variable {F : FTy → Type} [FloatOps F] [Named F]
def κ : String → Option EReal := fun
  | "cube" => some ((80338380498831 / 2251799813685248 : ℝ) : EReal)
  | _ => none
-- ==== FfnReferenceIdeal.lean ====
abbrev S16x2048x1024 : Shape := ⟨3, ![16, 2048, 1024]⟩
abbrev S16x2048x2048 : Shape := ⟨3, ![16, 2048, 2048]⟩
abbrev S16x2048x256 : Shape := ⟨3, ![16, 2048, 256]⟩
abbrev S16x2x6144 : Shape := ⟨3, ![16, 2, 6144]⟩
abbrev S2048 : Shape := ⟨1, ![2048]⟩
abbrev S1024x1024 : Shape := ⟨2, ![1024, 1024]⟩
abbrev S2048x1024 : Shape := ⟨2, ![2048, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S256x1024 : Shape := ⟨2, ![256, 1024]⟩
abbrev S1x1x2048 : Shape := ⟨3, ![1, 1, 2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6144 : Shape := ⟨3, ![16, 2048, 6144]⟩
abbrev S16x2050x6144 : Shape := ⟨3, ![16, 2050, 6144]⟩
abbrev S1x6144 : Shape := ⟨2, ![1, 6144]⟩
abbrev S1x1x6144 : Shape := ⟨3, ![1, 1, 6144]⟩
abbrev S16x2048x3072 : Shape := ⟨3, ![16, 2048, 3072]⟩
abbrev S32768x1024 : Shape := ⟨2, ![32768, 1024]⟩

abbrev nBuf : Space → Nat
  | .hbm => 130
  | .vmem => 0
  | .smem => 0
  | _ => 0

abbrev hbmTy0_0 (i : Nat) : BufTy := match i % 128 with
  | 0 => ⟨S16x2048x1024, .f32⟩
  | 1 => ⟨S16x2048x1024, .f32⟩
  | 2 => ⟨S16x2048x2048, .f32⟩
  | 3 => ⟨S16x2048x2048, .f32⟩
  | 4 => ⟨S16x2048x256, .f32⟩
  | 5 => ⟨S16x2x6144, .f32⟩
  | 6 => ⟨S2048, .f32⟩
  | 7 => ⟨S1024x1024, .f32⟩
  | 8 => ⟨S2048x1024, .f32⟩
  | 9 => ⟨S1024x1024, .f32⟩
  | 10 => ⟨S1024, .f32⟩
  | 11 => ⟨S1024x6144, .f32⟩
  | 12 => ⟨S3x6144, .f32⟩
  | 13 => ⟨S6144, .f32⟩
  | 14 => ⟨S3072x1024, .f32⟩
  | 15 => ⟨S1024, .f32⟩
  | 16 => ⟨S1024x1024, .f32⟩
  | 17 => ⟨S256x1024, .f32⟩
  | 18 => ⟨S1x1x2048, .f32⟩
  | 19 => ⟨S16x2048x2048, .f32⟩
  | 20 => ⟨S16x2048x2048, .f32⟩
  | 21 => ⟨S16x2048x2048, .f32⟩
  | 22 => ⟨S16x2048x2048, .f32⟩
  | 23 => ⟨S_, .f32⟩
  | 24 => ⟨S16x2048x2048, .f32⟩
  | 25 => ⟨S16x2048x2048, .f32⟩
  | 26 => ⟨S_, .f32⟩
  | 27 => ⟨S16x2048x2048, .f32⟩
  | 28 => ⟨S16x2048x2048, .f32⟩
  | 29 => ⟨S16x2048x1024, .f32⟩
  | 30 => ⟨S16x2048x1024, .f32⟩
  | 31 => ⟨S16x2048x1024, .f32⟩
  | 32 => ⟨S16x2048x1024, .f32⟩
  | 33 => ⟨S16x2048x1024, .f32⟩
  | 34 => ⟨S16x2048x1024, .f32⟩
  | 35 => ⟨S16x2048x1024, .f32⟩
  | 36 => ⟨S16x2048x1024, .f32⟩
  | 37 => ⟨S16x2048x1024, .f32⟩
  | 38 => ⟨S16x2048x1024, .f32⟩
  | 39 => ⟨S_, .f32⟩
  | 40 => ⟨S16x2048, .f32⟩
  | 41 => ⟨S16x2048x1, .f32⟩
  | 42 => ⟨S_, .f32⟩
  | 43 => ⟨S16x2048x1, .f32⟩
  | 44 => ⟨S16x2048x1, .f32⟩
  | 45 => ⟨S_, .f32⟩
  | 46 => ⟨S16x2048x1, .f32⟩
  | 47 => ⟨S16x2048x1, .f32⟩
  | 48 => ⟨S16x2048x1, .f32⟩
  | 49 => ⟨S16x2048x1024, .f32⟩
  | 50 => ⟨S16x2048x1024, .f32⟩
  | 51 => ⟨S1x1x1024, .f32⟩
  | 52 => ⟨S16x2048x1024, .f32⟩
  | 53 => ⟨S16x2048x1024, .f32⟩
  | 54 => ⟨S16x2048x6144, .f32⟩
  | 55 => ⟨S16x2050x6144, .f32⟩
  | 56 => ⟨S16x2048x6144, .f32⟩
  | 57 => ⟨S1x6144, .f32⟩
  | 58 => ⟨S6144, .f32⟩
  | 59 => ⟨S1x1x6144, .f32⟩
  | 60 => ⟨S16x2048x6144, .f32⟩
  | 61 => ⟨S16x2048x6144, .f32⟩
  | 62 => ⟨S1x1x6144, .f32⟩
  | 63 => ⟨S16x2048x6144, .f32⟩
  | 64 => ⟨S16x2048x6144, .f32⟩
  | 65 => ⟨S16x2048x6144, .f32⟩
  | 66 => ⟨S1x6144, .f32⟩
  | 67 => ⟨S6144, .f32⟩
  | 68 => ⟨S1x1x6144, .f32⟩
  | 69 => ⟨S16x2048x6144, .f32⟩
  | 70 => ⟨S16x2048x6144, .f32⟩
  | 71 => ⟨S16x2048x6144, .f32⟩
  | 72 => ⟨S16x2048x6144, .f32⟩
  | 73 => ⟨S1x6144, .f32⟩
  | 74 => ⟨S6144, .f32⟩
  | 75 => ⟨S1x1x6144, .f32⟩
  | 76 => ⟨S16x2048x6144, .f32⟩
  | 77 => ⟨S16x2048x6144, .f32⟩
  | 78 => ⟨S16x2048x6144, .f32⟩
  | 79 => ⟨S16x2048x3072, .f32⟩
  | 80 => ⟨S16x2048x3072, .f32⟩
  | 81 => ⟨S16x2048x3072, .f32⟩
  | 82 => ⟨S16x2048x3072, .f32⟩
  | 83 => ⟨S_, .f32⟩
  | 84 => ⟨S16x2048x3072, .f32⟩
  | 85 => ⟨S16x2048x3072, .f32⟩
  | 86 => ⟨S16x2048x3072, .f32⟩
  | 87 => ⟨S_, .f32⟩
  | 88 => ⟨S16x2048x3072, .f32⟩
  | 89 => ⟨S16x2048x3072, .f32⟩
  | 90 => ⟨S16x2048x3072, .f32⟩
  | 91 => ⟨S_, .f32⟩
  | 92 => ⟨S16x2048x3072, .f32⟩
  | 93 => ⟨S16x2048x3072, .f32⟩
  | 94 => ⟨S_, .f32⟩
  | 95 => ⟨S16x2048x3072, .f32⟩
  | 96 => ⟨S16x2048x3072, .f32⟩
  | 97 => ⟨S16x2048x3072, .f32⟩
  | 98 => ⟨S16x2048x3072, .f32⟩
  | 99 => ⟨S16x2048x1024, .f32⟩
  | 100 => ⟨S16x2048x1024, .f32⟩
  | 101 => ⟨S16x2048x1024, .f32⟩
  | 102 => ⟨S_, .f32⟩
  | 103 => ⟨S16x2048, .f32⟩
  | 104 => ⟨S16x2048x1, .f32⟩
  | 105 => ⟨S_, .f32⟩
  | 106 => ⟨S16x2048x1, .f32⟩
  | 107 => ⟨S16x2048x1, .f32⟩
  | 108 => ⟨S_, .f32⟩
  | 109 => ⟨S16x2048x1, .f32⟩
  | 110 => ⟨S16x2048x1, .f32⟩
  | 111 => ⟨S16x2048x1, .f32⟩
  | 112 => ⟨S16x2048x1024, .f32⟩
  | 113 => ⟨S16x2048x1024, .f32⟩
  | 114 => ⟨S1x1x1024, .f32⟩
  | 115 => ⟨S16x2048x1024, .f32⟩
  | 116 => ⟨S16x2048x1024, .f32⟩
  | 117 => ⟨S16x2048x1024, .f32⟩
  | 118 => ⟨S16x2048x1024, .f32⟩
  | 119 => ⟨S16x2048x1024, .f32⟩
  | 120 => ⟨S_, .f32⟩
  | 121 => ⟨S16x2048x1024, .f32⟩
  | 122 => ⟨S16x2048x1024, .f32⟩
  | 123 => ⟨S_, .f32⟩
  | 124 => ⟨S16x2048x1024, .f32⟩
  | 125 => ⟨S16x2048x1024, .f32⟩
  | 126 => ⟨S16x2048x1024, .f32⟩
  | 127 => ⟨S16x2048x1024, .f32⟩
  | _ => ⟨S16x2048x1024, .f32⟩

abbrev hbmTy0_1 (i : Nat) : BufTy := match i % 128 with
  | 0 => ⟨S16x2048x1024, .f32⟩
  | 1 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_4 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_5 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_6 : Ref sig .tc := ⟨.hbm, 91, rfl⟩
abbrev main_v66 : Ref sig .tc := ⟨.hbm, 92, rfl⟩
abbrev main_v67 : Ref sig .tc := ⟨.hbm, 93, rfl⟩
abbrev main_cst_7 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_8 : Ref sig .tc := ⟨.hbm, 102, rfl⟩
abbrev main_v75 : Ref sig .tc := ⟨.hbm, 103, rfl⟩
abbrev main_v76 : Ref sig .tc := ⟨.hbm, 104, rfl⟩
abbrev main_cst_9 : Ref sig .tc := ⟨.hbm, 105, rfl⟩
abbrev main_v77 : Ref sig .tc := ⟨.hbm, 106, rfl⟩
abbrev main_v78 : Ref sig .tc := ⟨.hbm, 107, rfl⟩
abbrev main_cst_10 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_11 : Ref sig .tc := ⟨.hbm, 120, rfl⟩
abbrev main_v90 : Ref sig .tc := ⟨.hbm, 121, rfl⟩
abbrev main_v91 : Ref sig .tc := ⟨.hbm, 122, rfl⟩
abbrev main_cst_12 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]
-- ==== Proof.Consts.lean ====
module

public import proofs.«01_k».proof.Proof.Gen.KernelIdeal.Skeleton
public import Idealize.ShloMosaic.Lib.Pointwise
public import Idealize.ShloMosaic.Lib.Tactic.WordOmega

@[expose] public section

namespace Cert.KernelIdeal.Attn

open Idealize.ShloMosaic

/-- The pattern of −∞. -/
theorem ofBits_neg_inf : Ideal.ofBits .f32 0xFF800000#32 = ⊥ := by
  simp [Ideal.ofBits, Ideal.ieee]

/-- The pattern of +∞. -/
theorem ofBits_inf : Ideal.ofBits .f32 0x7F800000#32 = ⊤ := by
  simp [Ideal.ofBits, Ideal.ieee]

/-- The pattern of the scale 1/8. -/
theorem ofBits_eighth : Ideal.ofBits .f32 0x3E000000#32 = ((1 / 8 : ℝ) : EReal) := by
  simp [Ideal.ofBits, Ideal.ieee, -EReal.coe_mul]
  norm_num

/-- A select on "the lane is in the lower half". -/
theorem select_lane {α : Type} (l : Fin 128) (a b : α) :
    Scalar.select (IntOp.cmpi .slt (BitVec.ofNat 32 l.val) 64#32) a b = if l.val < 64 then a else b := by
  have : IntOp.cmpi .slt (BitVec.ofNat 32 l.val) 64#32 = if l.val < 64 then 1#1 else 0#1 :=
    (by decide +kernel : ∀ l : Fin 128, IntOp.cmpi .slt (BitVec.ofNat 32 l.val) 64#32 = if l.val < 64 then 1#1 else 0#1) l
  rw [this]
  split <;> rfl

end Cert.KernelIdeal.Attn
-- ==== Proof.Pair.lean ====
module

public import proofs.«01_k».proof.Proof.Gen.KernelIdeal.Skeleton
public import Idealize.ShloMosaic.Lib.Pointwise
public import proofs.«01_k».proof.Proof.Consts

@[expose] public section

set_option maxRecDepth 16384

noncomputable section

namespace Cert.KernelIdeal.Attn

open Idealize.ShloMosaic Idealize.ShloMosaic.TcCoe Idealize.SL.Sem
open Cert.KernelIdeal Cert.KernelIdeal.Gen

/-- A softmax-weighted mean of `v` under the scores `s`. -/
def mean {n : Nat} (s v : Fin n → EReal) : EReal :=
  Ideal.div (∑ j, Ideal.exp (s j - Finset.univ.fold max ⊥ s) * v j) (∑ j, Ideal.exp (s j - Finset.univ.fold max ⊥ s))

/-- Two heads' attention of 256 queries over `n` keys as the block computes it: the queries stacked with the other
    head's lanes zeroed, one product for the scores, the bias, a softmax, one product with the values. -/
def pair (n : Nat) (d1 : DotDims S512x128 ⟨2, ![n, 128]⟩ ⟨2, ![512, n]⟩) (d2 : DotDims ⟨2, ![512, n]⟩ ⟨2, ![n, 128]⟩ S512x128)
    (hs : (⟨3, ![2, 256, n]⟩ : Shape).ShapeCasts ⟨3, ![2, 256, n]⟩) (hs' : (⟨3, ![2, 256, n]⟩ : Shape).ShapeCasts ⟨2, ![512, n]⟩)
    (hr : (⟨2, ![512, n]⟩ : Shape).Reduces [1] S512) (hb : S512x1.Broadcasts ⟨2, ![512, n]⟩)
    (q : FVec Ideal S256x128 .bf16) (k v : FVec Ideal ⟨2, ![n, 128]⟩ .bf16) (b : FVec Ideal ⟨3, ![2, 256, n]⟩ .f32) :
    FVec Ideal S256x128 .f32 :=
  have zero : FVec Ideal S256x128 .bf16 := broadcast S256x128 (Scalar.ofBits .bf16 0x0000#16)
  have stacked : FVec Ideal S512x128 .bf16 := concatenate S512x128 0
    [⟨S256x128, select k1_pay4 q zero⟩, ⟨S256x128, select k1_pay4 zero q⟩] concatenates_S256x128_S256x128_S512x128_d0
  have s : FVec Ideal ⟨2, ![512, n]⟩ .f32 := addf
    (matmul (F := Ideal) d1 none stacked k (constant ⟨2, ![512, n]⟩ .f32 0x00000000#32))
    (shapeCast ⟨2, ![512, n]⟩ (shapeCast ⟨3, ![2, 256, n]⟩ b hs) hs')
  have m : FVec Ideal S512 .f32 := multiReduction (F := Ideal) .maximumf [1] S512 s 0xFF800000#32 hr (.inl rfl) rfl
  have p : FVec Ideal ⟨2, ![512, n]⟩ .f32 := exp (subf s (broadcastTo ⟨2, ![512, n]⟩ (shapeCast S512x1 m shapeCasts_S512_S512x1) hb))
  have z : FVec Ideal S512 .f32 := multiReduction (F := Ideal) .add [1] S512 p 0x00000000#32 hr (.inl rfl) rfl
  have o : FVec Ideal S512x128 .f32 := divf
    (matmul (F := Ideal) d2 none (truncf .bf16 p bitsLt_bf16_f32) v (constant S512x128 .f32 0x00000000#32))
    (broadcastTo S512x128 (shapeCast S512x1 z shapeCasts_S512_S512x1) broadcasts_S512x1_S512x128)
  select k1_pay4 (extractStridedSlice S256x128 ![0, 0] o slices_S512x128_o0_0_S256x128)
    (extractStridedSlice S256x128 ![256, 0] o slices_S512x128_o256_0_S256x128)

/-- A sum over two heads' lanes with the upper half zeroed. -/
theorem sum_lower (f : Fin 128 → EReal) :
    (∑ x : Fin 128, if x.val < 64 then f x else 0) = ∑ d : Fin 64, f ⟨d.val, by omega⟩ := by
  rw [Fin.sum_univ_two_halves 64 64 rfl]
  rw [Finset.sum_congr rfl fun (d : Fin 64) _ => if_pos d.isLt, Finset.sum_congr rfl fun (d : Fin 64) _ => if_neg (by simp)]
  simp

/-- A sum over two heads' lanes with the lower half zeroed. -/
theorem sum_upper (f : Fin 128 → EReal) :
    (∑ x : Fin 128, if x.val < 64 then 0 else f x) = ∑ d : Fin 64, f ⟨64 + d.val, by omega⟩ := by
  rw [Fin.sum_univ_two_halves 64 64 rfl]
  rw [Finset.sum_congr rfl fun (d : Fin 64) _ => if_pos d.isLt, Finset.sum_congr rfl fun (d : Fin 64) _ => if_neg (by simp)]
  simp

/-- The score of query `i` against key `j` in the head of lane `l`: the product over the head's lanes, and the bias. -/
def score {n : Nat} (q : FVec Ideal S256x128 .bf16) (k : FVec Ideal ⟨2, ![n, 128]⟩ .bf16) (b : FVec Ideal ⟨3, ![2, 256, n]⟩ .f32)
    (i : Fin 256) (l : Fin 128) (j : Fin n) : EReal :=
  (∑ d : Fin 64, q (ix2 i ⟨64 * (l.val / 64) + d.val, by omega⟩) * k (ix2 j ⟨64 * (l.val / 64) + d.val, by omega⟩))
    + b (ix3 ⟨l.val / 64, by omega⟩ i j)

/-- The pair over the 256 keys of the first block. -/
abbrev pair256 := pair 256 dot_S512x128_S256x128_S512x256_1_1_0_0_n_n dot_S512x256_S256x128_S512x128_1_0_0_1_n_n
  shapeCasts_S2x256x256_S2x256x256 shapeCasts_S2x256x256_S512x256 reduces_S512x256_S512 broadcasts_S512x1_S512x256

/-- The pair over the 512 keys of the second block. -/
abbrev pair512 := pair 512 dot_S512x128_S512x128_S512x512_1_1_0_0_n_n dot_S512x512_S512x128_S512x128_1_0_0_1_n_n
  shapeCasts_S2x256x512_S2x256x512 shapeCasts_S2x256x512_S512x512 reduces_S512x512_S512 broadcasts_S512x1_S512x512

/-- The pair over the 768 keys of every later block. -/
abbrev pair768 := pair 768 dot_S512x128_S768x128_S512x768_1_1_0_0_n_n dot_S512x768_S768x128_S512x128_1_0_0_1_n_n
  shapeCasts_S2x256x768_S2x256x768 shapeCasts_S2x256x768_S512x768 reduces_S512x768_S512 broadcasts_S512x1_S512x768

/-- What the pair's reading leaves, once each select is an `if`: the two heads' means are the mean of the lane's head. -/
theorem pair_read {n : Nat} (q : FVec Ideal S256x128 .bf16) (k v : FVec Ideal ⟨2, ![n, 128]⟩ .bf16)
    (b : FVec Ideal ⟨3, ![2, 256, n]⟩ .f32) (i : Fin 256) (l : Fin 128) :
    (if l.val < 64 then
      mean (fun j => (∑ x : Fin 128, if x.val < 64 then q (ix2 i x) * k (ix2 j x) else 0) + b (ix3 0 i j)) (fun j => v (ix2 j l))
    else
      mean (fun j => (∑ x : Fin 128, if x.val < 64 then 0 else q (ix2 i x) * k (ix2 j x)) + b (ix3 1 i j)) (fun j => v (ix2 j l)))
    = mean (score q k b i l) (fun j => v (ix2 j l)) := by
  split
  · rename_i h
    congr 1
    funext j
    have h0 : l.val / 64 = 0 := by omega
    unfold score
    rw [sum_lower (fun x => q (ix2 i x) * k (ix2 j x))]
    simp only [h0, Nat.mul_zero, Nat.zero_add]
    rfl
  · rename_i h
    congr 1
    funext j
    have h0 : l.val / 64 = 1 := by omega
    unfold score
    rw [sum_upper (fun x => q (ix2 i x) * k (ix2 j x))]
    simp only [h0, Nat.mul_one]
    rfl

theorem row_lower (i : Fin 256) (h : i.val / 256 < 2) : (⟨i.val / 256, h⟩ : Fin 2) = 0 := Fin.ext (by show i.val / 256 = 0; omega)
theorem row_upper (i : Fin 256) (h : (256 + i.val) / 256 < 2) : (⟨(256 + i.val) / 256, h⟩ : Fin 2) = 1 := Fin.ext (by show (256 + i.val) / 256 = 1; omega)
theorem row_mod (i : Fin 256) (h : i.val % 256 < 256) : (⟨i.val % 256, h⟩ : Fin 256) = i := Fin.ext (by show i.val % 256 = i.val; omega)
theorem row_mod' (i : Fin 256) (h : (256 + i.val) % 256 < 256) : (⟨(256 + i.val) % 256, h⟩ : Fin 256) = i := Fin.ext (by show (256 + i.val) % 256 = i.val; omega)

theorem pair256_apply (q k v : FVec Ideal S256x128 .bf16) (b : FVec Ideal S2x256x256 .f32) (i : Fin 256) (l : Fin 128) :
    pair256 q k v b (ix2 i l) = mean (score (n := 256) q k b i l) (fun j => v (ix2 j l)) := by
  rw [← pair_read]
  unfold mean
  pointwise [pair256, pair, k1_pay4, select_lane, ofBits_neg_inf, row_lower, row_upper, row_mod, row_mod']
  simp only [zero_mul]

theorem pair512_apply (q : FVec Ideal S256x128 .bf16) (k v : FVec Ideal S512x128 .bf16) (b : FVec Ideal S2x256x512 .f32) (i : Fin 256) (l : Fin 128) :
    pair512 q k v b (ix2 i l) = mean (score (n := 512) q k b i l) (fun j => v (ix2 j l)) := by
  rw [← pair_read]
  unfold mean
  pointwise [pair512, pair, k1_pay4, select_lane, ofBits_neg_inf, row_lower, row_upper, row_mod, row_mod']
  simp only [zero_mul]

theorem pair768_apply (q : FVec Ideal S256x128 .bf16) (k v : FVec Ideal S768x128 .bf16) (b : FVec Ideal S2x256x768 .f32) (i : Fin 256) (l : Fin 128) :
    pair768 q k v b (ix2 i l) = mean (score (n := 768) q k b i l) (fun j => v (ix2 j l)) := by
  rw [← pair_read]
  unfold mean
  pointwise [pair768, pair, k1_pay4, select_lane, ofBits_neg_inf, row_lower, row_upper, row_mod, row_mod']
  simp only [zero_mul]

end Cert.KernelIdeal.Attn
-- ==== Proof.Block.lean ====
module

public import proofs.«01_k».proof.Proof.Pair

@[expose] public section

set_option maxRecDepth 16384

noncomputable section

namespace Cert.KernelIdeal.Attn

open Idealize.ShloMosaic Idealize.ShloMosaic.TcCoe Idealize.SL.Sem
open Cert.KernelIdeal Cert.KernelIdeal.Gen

/-- Two pairs of heads side by side, as one block of the output. -/
def join (a b : FVec Ideal S256x128 .f32) : FVec Ideal S1x256x256 .bf16 :=
  shapeCast S1x256x256 (truncf .bf16 (concatenate S256x256 1 [⟨S256x128, a⟩, ⟨S256x128, b⟩] concatenates_S256x128_S256x128_S256x256_d1)
    bitsLt_bf16_f32) shapeCasts_S256x256_S1x256x256

/-- The lower pair's lanes of a block of queries. -/
abbrev qlo (q : FVec Ideal S1x256x256 .bf16) : FVec Ideal S256x128 .bf16 :=
  extractStridedSlice S256x128 ![0, 0] (shapeCast S256x256 q shapeCasts_S1x256x256_S256x256) slices_S256x256_o0_0_S256x128
/-- The upper pair's. -/
abbrev qhi (q : FVec Ideal S1x256x256 .bf16) : FVec Ideal S256x128 .bf16 :=
  extractStridedSlice S256x128 ![0, 128] (shapeCast S256x256 q shapeCasts_S1x256x256_S256x256) slices_S256x256_o0_128_S256x128

/-- The block of 256 queries over 256 keys, the four heads. -/
def blk256 (q : FVec Ideal S1x256x256 .bf16) (k v : FVec Ideal S256x256 .bf16) (b0 b1 : FVec Ideal S2x256x256 .f32) : FVec Ideal S1x256x256 .bf16 :=
  join (pair256 (qlo q) (extractStridedSlice S256x128 ![0, 0] k slices_S256x256_o0_0_S256x128)
      (extractStridedSlice S256x128 ![0, 0] v slices_S256x256_o0_0_S256x128) b0)
    (pair256 (qhi q) (extractStridedSlice S256x128 ![0, 128] k slices_S256x256_o0_128_S256x128)
      (extractStridedSlice S256x128 ![0, 128] v slices_S256x256_o0_128_S256x128) b1)

/-- The block over 512 keys. -/
def blk512 (q : FVec Ideal S1x256x256 .bf16) (k v : FVec Ideal S512x256 .bf16) (b0 b1 : FVec Ideal S2x256x512 .f32) : FVec Ideal S1x256x256 .bf16 :=
  join (pair512 (qlo q) (extractStridedSlice S512x128 ![0, 0] k slices_S512x256_o0_0_S512x128)
      (extractStridedSlice S512x128 ![0, 0] v slices_S512x256_o0_0_S512x128) b0)
    (pair512 (qhi q) (extractStridedSlice S512x128 ![0, 128] k slices_S512x256_o0_128_S512x128)
      (extractStridedSlice S512x128 ![0, 128] v slices_S512x256_o0_128_S512x128) b1)

/-- The block over 768 keys. -/
def blk768 (q : FVec Ideal S1x256x256 .bf16) (k v : FVec Ideal S768x256 .bf16) (b0 b1 : FVec Ideal S2x256x768 .f32) : FVec Ideal S1x256x256 .bf16 :=
  join (pair768 (qlo q) (extractStridedSlice S768x128 ![0, 0] k slices_S768x256_o0_0_S768x128)
      (extractStridedSlice S768x128 ![0, 0] v slices_S768x256_o0_0_S768x128) b0)
    (pair768 (qhi q) (extractStridedSlice S768x128 ![0, 128] k slices_S768x256_o0_128_S768x128)
      (extractStridedSlice S768x128 ![0, 128] v slices_S768x256_o0_128_S768x128) b1)

/-! The eight stores of the body are these blocks. -/

section Stores

variable (q : FVec Ideal S1x256x256 .bf16)

theorem store0 (k v : FVec Ideal S256x256 .bf16) (b0 b1 : FVec Ideal S2x256x256 .f32) :
    k1_pay9 k1_pay4 k v (k1_pay5 q) (k1_pay6 v) (k1_pay7 k q b0) (k1_pay8 k q b0) b1 = blk256 q k v b0 b1 := rfl

theorem store1 (k v : FVec Ideal S512x256 .bf16) (b0 b1 : FVec Ideal S2x256x512 .f32) :
    k1_pay14 k1_pay4 (k1_pay11 k1_pay4 k v q b0) (k1_pay12 v) (k1_pay13 k1_pay4 k q) b1 = blk512 q k v b0 b1 := rfl

variable (k v : FVec Ideal S768x256 .bf16) (b0 b1 : FVec Ideal S2x256x768 .f32)

theorem store2 : k1_pay23 k1_pay4 (k1_pay19 k1_pay4 (k1_pay16 q) (k1_pay17 k) (k1_pay18 v) b0) (k1_pay20 v)
    (k1_pay21 k1_pay4 k (k1_pay15 q) b1) (k1_pay22 k1_pay4 k (k1_pay15 q) b1) = blk768 q k v b0 b1 := rfl

theorem store3 : k1_pay29 (k1_pay28 k1_pay4 k v (k1_pay24 q) (k1_pay25 v) (k1_pay26 k1_pay4 k q) (k1_pay27 b0) b1)
    = blk768 q k v b0 b1 := rfl

theorem store4 : k1_pay32 k1_pay4 k v (k1_pay30 q) (k1_pay31 k1_pay4 k v q b0) b1 = blk768 q k v b0 b1 := rfl

theorem store5 : k1_pay37 k1_pay4 (k1_pay34 k1_pay4 k v q b0) (k1_pay35 v) (k1_pay36 k1_pay4 k q) b1 = blk768 q k v b0 b1 := rfl

theorem store6 : k1_pay46 k1_pay4 (k1_pay42 k1_pay4 (k1_pay39 q) (k1_pay40 k) (k1_pay41 v) b0) (k1_pay43 v)
    (k1_pay44 k1_pay4 k (k1_pay38 q) b1) (k1_pay45 k1_pay4 k (k1_pay38 q) b1) = blk768 q k v b0 b1 := rfl

theorem store7 : k1_pay1 (k1_pay51 k1_pay4 k v (k1_pay47 q) (k1_pay48 v) (k1_pay49 k1_pay4 k q) (k1_pay50 b0) b1)
    = blk768 q k v b0 b1 := rfl

end Stores

/-- The product of query `i` and key `j` over the lanes of the head of column `c`. -/
def dotHead {n : Nat} (q : FVec Ideal S1x256x256 .bf16) (k : FVec Ideal ⟨2, ![n, 256]⟩ .bf16) (i c : Fin 256) (j : Fin n) : EReal :=
  ∑ d : Fin 64, q (ix3 0 i ⟨64 * (c.val / 64) + d.val, by omega⟩) * k (ix2 j ⟨64 * (c.val / 64) + d.val, by omega⟩)

/-- The bias of column `c`'s head, from the two pairs' biases. -/
def biasHead {n : Nat} (b0 b1 : FVec Ideal ⟨3, ![2, 256, n]⟩ .f32) (i c : Fin 256) (j : Fin n) : EReal :=
  if c.val < 128 then b0 (ix3 ⟨c.val / 64 % 2, by omega⟩ i j) else b1 (ix3 ⟨c.val / 64 % 2, by omega⟩ i j)

theorem join_apply (a b : FVec Ideal S256x128 .f32) (i c : Fin 256) :
    join a b (ix3 0 i c) = if h : c.val < 128 then a (ix2 i ⟨c.val, h⟩) else b (ix2 i ⟨c.val - 128, by omega⟩) := by
  pointwise [join]

theorem qlo_apply (q : FVec Ideal S1x256x256 .bf16) (i : Fin 256) (l : Fin 128) : qlo q (ix2 i l) = q (ix3 0 i ⟨l.val, by omega⟩) := by
  pointwise [qlo]
theorem qhi_apply (q : FVec Ideal S1x256x256 .bf16) (i : Fin 256) (l : Fin 128) : qhi q (ix2 i l) = q (ix3 0 i ⟨128 + l.val, by omega⟩) := by
  pointwise [qhi]

/-- The two halves of a block's columns, read as one formula over the column's head. -/
theorem halves {n : Nat} (q : FVec Ideal S1x256x256 .bf16) (k v : FVec Ideal ⟨2, ![n, 256]⟩ .bf16)
    (b0 b1 : FVec Ideal ⟨3, ![2, 256, n]⟩ .f32) (k0 k1 v0 v1 : FVec Ideal ⟨2, ![n, 128]⟩ .bf16) (a b : FVec Ideal S256x128 .f32)
    (hk0 : ∀ (j : Fin n) (l : Fin 128), k0 (ix2 j l) = k (ix2 j ⟨l.val, by omega⟩))
    (hk1 : ∀ (j : Fin n) (l : Fin 128), k1 (ix2 j l) = k (ix2 j ⟨128 + l.val, by omega⟩))
    (hv0 : ∀ (j : Fin n) (l : Fin 128), v0 (ix2 j l) = v (ix2 j ⟨l.val, by omega⟩))
    (hv1 : ∀ (j : Fin n) (l : Fin 128), v1 (ix2 j l) = v (ix2 j ⟨128 + l.val, by omega⟩))
    (ha : ∀ (i : Fin 256) (l : Fin 128), a (ix2 i l) = mean (score (qlo q) k0 b0 i l) (fun j => v0 (ix2 j l)))
    (hb : ∀ (i : Fin 256) (l : Fin 128), b (ix2 i l) = mean (score (qhi q) k1 b1 i l) (fun j => v1 (ix2 j l)))
    (i c : Fin 256) :
    join a b (ix3 0 i c) = mean (fun j => dotHead q k i c j + biasHead b0 b1 i c j) (fun j => v (ix2 j c)) := by
  rw [join_apply]
  split
  · rename_i h
    rw [ha]
    refine congrArg₂ mean (funext fun j => ?_) (funext fun j => hv0 j _)
    refine congrArg₂ (· + ·) (Finset.sum_congr rfl fun d _ => ?_) ?_
    · rw [qlo_apply, hk0]
    · unfold biasHead
      rw [if_pos h]
      congr 2
      apply Fin.ext
      show c.val / 64 = c.val / 64 % 2
      omega
  · rename_i h
    rw [hb]
    refine congrArg₂ mean (funext fun j => ?_) (funext fun j => ?_)
    · refine congrArg₂ (· + ·) (Finset.sum_congr rfl fun d _ => ?_) ?_
      · rw [qhi_apply, hk1]
        have e : ∀ hh hh', (⟨128 + (64 * ((c.val - 128) / 64) + d.val), hh⟩ : Fin 256) = ⟨64 * (c.val / 64) + d.val, hh'⟩ :=
          fun _ _ => Fin.ext (by show 128 + (64 * ((c.val - 128) / 64) + d.val) = 64 * (c.val / 64) + d.val; omega)
        exact congrArg₂ (· * ·) (congrArg (fun x => q (ix3 0 i x)) (e _ _)) (congrArg (fun x => k (ix2 j x)) (e _ _))
      · unfold biasHead
        rw [if_neg h]
        congr 2
        apply Fin.ext
        show (c.val - 128) / 64 = c.val / 64 % 2
        omega
    · rw [hv1]
      congr 2
      apply Fin.ext
      show 128 + (c.val - 128) = c.val
      omega

theorem blk256_apply (q : FVec Ideal S1x256x256 .bf16) (k v : FVec Ideal S256x256 .bf16) (b0 b1 : FVec Ideal S2x256x256 .f32) (i c : Fin 256) :
    blk256 q k v b0 b1 (ix3 0 i c) = mean (fun j => dotHead (n := 256) q k i c j + biasHead (n := 256) b0 b1 i c j) (fun j => v (ix2 j c)) := by
  refine halves (n := 256) q k v b0 b1 _ _ _ _ _ _ ?_ ?_ ?_ ?_ (fun i l => pair256_apply _ _ _ _ i l) (fun i l => pair256_apply _ _ _ _ i l) i c
  all_goals intro j l; pointwise

theorem blk512_apply (q : FVec Ideal S1x256x256 .bf16) (k v : FVec Ideal S512x256 .bf16) (b0 b1 : FVec Ideal S2x256x512 .f32) (i c : Fin 256) :
    blk512 q k v b0 b1 (ix3 0 i c) = mean (fun j => dotHead (n := 512) q k i c j + biasHead (n := 512) b0 b1 i c j) (fun j => v (ix2 j c)) := by
  refine halves (n := 512) q k v b0 b1 _ _ _ _ _ _ ?_ ?_ ?_ ?_ (fun i l => pair512_apply _ _ _ _ i l) (fun i l => pair512_apply _ _ _ _ i l) i c
  all_goals intro j l; pointwise

theorem blk768_apply (q : FVec Ideal S1x256x256 .bf16) (k v : FVec Ideal S768x256 .bf16) (b0 b1 : FVec Ideal S2x256x768 .f32) (i c : Fin 256) :
    blk768 q k v b0 b1 (ix3 0 i c) = mean (fun j => dotHead (n := 768) q k i c j + biasHead (n := 768) b0 b1 i c j) (fun j => v (ix2 j c)) := by
  refine halves (n := 768) q k v b0 b1 _ _ _ _ _ _ ?_ ?_ ?_ ?_ (fun i l => pair768_apply _ _ _ _ i l) (fun i l => pair768_apply _ _ _ _ i l) i c
  all_goals intro j l; pointwise

end Cert.KernelIdeal.Attn
-- ==== Proof.Mean.lean ====
module

public import proofs.«01_k».proof.Proof.Pair

@[expose] public section

noncomputable section

namespace Cert.KernelIdeal.Attn

open Idealize.ShloMosaic

/-- A softmax-weighted mean sees only the scores that are not −∞: a window outside which all are is enough. -/
theorem mean_window {n N : Nat} (a : Nat) (h : a + n ≤ N) (s v : Fin N → EReal)
    (hs : ∀ t : Fin N, t.val < a ∨ a + n ≤ t.val → s t = ⊥) :
    mean (fun j : Fin n => s ⟨a + j.val, by omega⟩) (fun j => v ⟨a + j.val, by omega⟩) = mean s v := by
  have hm : Finset.univ.fold max ⊥ (fun j : Fin n => s ⟨a + j.val, by omega⟩) = Finset.univ.fold max ⊥ s := by
    apply le_antisymm
    · rw [Finset.fold_max_le]
      exact ⟨bot_le, fun j _ => Finset.le_fold_max _ |>.mpr (Or.inr ⟨_, Finset.mem_univ _, le_refl _⟩)⟩
    · rw [Finset.fold_max_le]
      refine ⟨bot_le, fun t _ => ?_⟩
      by_cases ht : t.val < a ∨ a + n ≤ t.val
      · rw [hs t ht]; exact bot_le
      · refine Finset.le_fold_max _ |>.mpr (Or.inr ⟨⟨t.val - a, by omega⟩, Finset.mem_univ _, ?_⟩)
        apply le_of_eq
        congr 1
        apply Fin.ext
        show t.val = a + (t.val - a)
        omega
  have hsum : ∀ f : Fin N → EReal, (∀ t : Fin N, t.val < a ∨ a + n ≤ t.val → f t = 0) →
      ∑ j : Fin n, f ⟨a + j.val, by omega⟩ = ∑ t, f t := by
    intro f hf
    let e : Fin n ↪ Fin N := ⟨fun j => ⟨a + j.val, by omega⟩, fun x y hxy => Fin.ext (by
      have := congrArg Fin.val hxy
      simpa using this)⟩
    refine (Finset.sum_map Finset.univ e f).symm.trans ?_
    refine Finset.sum_subset (Finset.subset_univ _) fun t _ ht => hf t ?_
    by_contra hc
    apply ht
    rw [Finset.mem_map]
    exact ⟨⟨t.val - a, by omega⟩, Finset.mem_univ _, Fin.ext (by show a + (t.val - a) = t.val; omega)⟩
  have h0 : ∀ t : Fin N, t.val < a ∨ a + n ≤ t.val → Ideal.exp (s t - Finset.univ.fold max ⊥ s) = 0 := by
    intro t ht
    rw [hs t ht, EReal.bot_sub, Ideal.exp_bot]
  unfold mean
  rw [hm, hsum (fun t => Ideal.exp (s t - Finset.univ.fold max ⊥ s)) h0,
    hsum (fun t => Ideal.exp (s t - Finset.univ.fold max ⊥ s) * v t) (fun t ht => by rw [h0 t ht, zero_mul])]

end Cert.KernelIdeal.Attn
-- ==== Proof.Region.lean ====
module

public import proofs.«01_k».proof.Proof.Gen.KernelIdeal.Frame
public import proofs.«01_k».proof.Proof.Block
public import proofs.«01_k».proof.Proof.Mean
public import Idealize.ShloMosaic.Lib.Pipeline.Value

@[expose] public section

set_option maxRecDepth 16384

noncomputable section

namespace Cert.KernelIdeal.Attn

open Idealize.ShloMosaic Idealize.ShloMosaic.TcCoe Idealize.SL.Sem
open Cert.KernelIdeal Cert.KernelIdeal.Gen

/-- The score of query row `r` against token `t` in the head of column `c` of one block: the product and the bias where
    the token is one of the keys loaded for the row's 256 queries, −∞ elsewhere. -/
def rowScore (x0 x1 : FVec Ideal S1x2048x256 .bf16) (x3 : FVec Ideal S4x256x768 .f32) (r : Fin 2048) (c : Fin 256) (t : Fin 2048) : EReal :=
  if h : 256 * (r.val / 256) ≤ t.val + 512 ∧ t.val < 256 * (r.val / 256) + 256 then
    (∑ d : Fin 64, x0 (ix3 0 r ⟨64 * (c.val / 64) + d.val, by omega⟩) * x1 (ix3 0 t ⟨64 * (c.val / 64) + d.val, by omega⟩))
      + x3 (ix3 ⟨c.val / 64, by omega⟩ ⟨r.val % 256, by omega⟩ ⟨t.val + 512 - 256 * (r.val / 256), by omega⟩)
  else ⊥

/-- The output of one block at row `r`, column `c`. -/
def rowOut (x0 x1 x2 : FVec Ideal S1x2048x256 .bf16) (x3 : FVec Ideal S4x256x768 .f32) (r : Fin 2048) (c : Fin 256) : EReal :=
  mean (rowScore x0 x1 x3 r c) (fun t => x2 (ix3 0 t c))

/-- A block of 256 queries over the `n` keys from token `a` on computes its rows. -/
theorem block_row {n : Nat} (m a off : Nat) (hm : 256 * m + 256 ≤ 2048) (han : a + n = 256 * m + 256) (hoff : off + 256 * m = a + 512)
    (hn : off + n = 768) (ha : a = 0 ∨ off = 0)
    (x0 x1 x2 : FVec Ideal S1x2048x256 .bf16) (x3 : FVec Ideal S4x256x768 .f32)
    (q : FVec Ideal S1x256x256 .bf16) (k v : FVec Ideal ⟨2, ![n, 256]⟩ .bf16) (b0 b1 : FVec Ideal ⟨3, ![2, 256, n]⟩ .f32)
    (hq : ∀ i l : Fin 256, q (ix3 0 i l) = x0 (ix3 0 ⟨256 * m + i.val, by omega⟩ l))
    (hk : ∀ (j : Fin n) (l : Fin 256), k (ix2 j l) = x1 (ix3 0 ⟨a + j.val, by omega⟩ l))
    (hv : ∀ (j : Fin n) (l : Fin 256), v (ix2 j l) = x2 (ix3 0 ⟨a + j.val, by omega⟩ l))
    (hb0 : ∀ (p : Fin 2) (i : Fin 256) (j : Fin n), b0 (ix3 p i j) = x3 (ix3 ⟨p.val, by omega⟩ i ⟨off + j.val, by omega⟩))
    (hb1 : ∀ (p : Fin 2) (i : Fin 256) (j : Fin n), b1 (ix3 p i j) = x3 (ix3 ⟨2 + p.val, by omega⟩ i ⟨off + j.val, by omega⟩))
    (i c : Fin 256) :
    mean (fun j => dotHead q k i c j + biasHead b0 b1 i c j) (fun j => v (ix2 j c)) = rowOut x0 x1 x2 x3 ⟨256 * m + i.val, by omega⟩ c := by
  unfold rowOut
  rw [← mean_window (n := n) a (by omega) (rowScore x0 x1 x3 ⟨256 * m + i.val, by omega⟩ c) (fun t => x2 (ix3 0 t c))]
  · refine congrArg₂ mean (funext fun j => ?_) (funext fun j => hv j c)
    have hd : (256 * m + i.val) / 256 = m := by omega
    have hr : (256 * m + i.val) % 256 = i.val := by omega
    unfold rowScore
    rw [dif_pos ⟨by show 256 * ((256 * m + i.val) / 256) ≤ a + j.val + 512; omega, by show a + j.val < 256 * ((256 * m + i.val) / 256) + 256; omega⟩]
    refine congrArg₂ (· + ·) (Finset.sum_congr rfl fun d _ => ?_) ?_
    · rw [hq, hk]
    · unfold biasHead
      split
      · rw [hb0]
        exact congrArg x3 (congr (congrArg₂ ix3 (Fin.ext (by show c.val / 64 % 2 = c.val / 64; omega)) (Fin.ext hr.symm))
          (Fin.ext (by show off + j.val = a + j.val + 512 - 256 * ((256 * m + i.val) / 256); omega)))
      · rw [hb1]
        exact congrArg x3 (congr (congrArg₂ ix3 (Fin.ext (by show 2 + c.val / 64 % 2 = c.val / 64; omega)) (Fin.ext hr.symm))
          (Fin.ext (by show off + j.val = a + j.val + 512 - 256 * ((256 * m + i.val) / 256); omega)))
  · intro t ht
    unfold rowScore
    rw [dif_neg]
    show ¬ (256 * ((256 * m + i.val) / 256) ≤ t.val + 512 ∧ t.val < 256 * ((256 * m + i.val) / 256) + 256)
    omega

/-- A load of `n` rows of the keys' (values') buffer from row `512 + a` on reads the block's tokens from `a` on. -/
theorem keys_read {n : Nat} (v : View sig .tc .vmem S2560x256 .bf16) (w : FVec Ideal S2048x256 .bf16) (off : Fin 2 → Nat) (a : Nat)
    (hoff : off = ![512 + a, 0]) (ha : a + n ≤ 2048) (inb : ∀ x, (![512, 0] : Fin 2 → Nat) x + S2048x256.size x ≤ S2560x256.size x)
    (inb' : ∀ x, off x + (⟨2, ![n, 256]⟩ : Shape).size x ≤ S2560x256.size x) (j : Fin n) (l : Fin 256) :
    v.readCov (Val := Elt Ideal) [⟨Rect.unit (s := S2560x256) ![512, 0] S2048x256.size inb, w⟩]
      (Rect.unit (s := S2560x256) off (⟨2, ![n, 256]⟩ : Shape).size inb').toLoadRect (ix2 j l) = w (ix2 ⟨a + j.val, by omega⟩ l) := by
  subst hoff
  rw [View.readCov_eq_canon']
  have e : (Rect.unit (s := S2560x256) ![512 + a, 0] (⟨2, ![n, 256]⟩ : Shape).size inb').toLoadRect.idx (ix2 j l)
      = (Rect.unit (s := S2560x256) ![512, 0] S2048x256.size inb).emb (ix2 (⟨a + j.val, by omega⟩ : Fin 2048) l) := by
    funext x
    apply Fin.ext
    match x with
    | ⟨0, _⟩ => show 512 + a + 1 * j.val = 512 + 1 * (a + j.val); omega
    | ⟨1, _⟩ => rfl
  show View.canon _ _ = _
  rw [e]
  exact View.canon_cons_emb _ _ _ _

/-- A load of 256 rows of the queries' block. -/
theorem rows_read {m : Memref sig .tc .vmem S1x2048x256 .bf16} (h : m.IsWhole) (x : FVec Ideal S1x2048x256 .bf16) (off : Fin 3 → Nat) (a : Nat)
    (hoff : off = ![0, a, 0]) (ha : a + 256 ≤ 2048) (inb : ∀ x, off x + S1x256x256.size x ≤ S1x2048x256.size x) (i l : Fin 256) :
    View.readAt (Elt Ideal) m.view (Rect.unit (s := S1x2048x256) off S1x256x256.size inb).toLoadRect (h.unread x) (ix3 0 i l)
      = x (ix3 0 ⟨a + i.val, by omega⟩ l) := by
  subst hoff
  rw [View.readAt_eq_ld, h.read_unread]
  refine congrArg x (funext fun y => Fin.ext ?_)
  match y with
  | ⟨0, _⟩ => rfl
  | ⟨1, _⟩ => show a + 1 * i.val = a + i.val; omega
  | ⟨2, _⟩ => show 0 + 1 * l.val = l.val; omega

theorem zeros3 : (![0, 0, 0] : Fin 3 → Nat) = fun _ => 0 := by decide +kernel

/-- A load of the whole block. -/
theorem whole_read {m : Memref sig .tc .vmem S1x2048x256 .bf16} (h : m.IsWhole) (x : FVec Ideal S1x2048x256 .bf16)
    (inb : ∀ x, (![0, 0, 0] : Fin 3 → Nat) x + S1x2048x256.size x ≤ S1x2048x256.size x) :
    View.readAt (Elt Ideal) m.view (Rect.unit (s := S1x2048x256) ![0, 0, 0] S1x2048x256.size inb).toLoadRect (h.unread x) = x := by
  rw [View.readAt_eq_ld, h.read_unread]
  exact View.ld_unit_zero (Val := Elt Ideal) (e := .bf16) (S := S1x2048x256) zeros3 inb x

/-- A load of two heads' biases. -/
theorem bias_read {n : Nat} {m : Memref sig .tc .vmem S4x256x768 .f32} (h : m.IsWhole) (x : FVec Ideal S4x256x768 .f32) (p0 off : Nat)
    (hp : p0 + 2 ≤ 4) (ho : off + n ≤ 768)
    (inb : ∀ x, (![p0, 0, off] : Fin 3 → Nat) x + (⟨3, ![2, 256, n]⟩ : Shape).size x ≤ S4x256x768.size x) (p : Fin 2) (i : Fin 256) (j : Fin n) :
    View.readAt (Elt Ideal) m.view (Rect.unit (s := S4x256x768) ![p0, 0, off] (⟨3, ![2, 256, n]⟩ : Shape).size inb).toLoadRect (h.unread x) (ix3 p i j)
      = x (ix3 ⟨p0 + p.val, by omega⟩ i ⟨off + j.val, by omega⟩) := by
  rw [View.readAt_eq_ld, h.read_unread]
  refine congrArg x (funext fun y => Fin.ext ?_)
  match y with
  | ⟨0, _⟩ => show p0 + 1 * p.val = p0 + p.val; omega
  | ⟨1, _⟩ => show 0 + 1 * i.val = i.val; omega
  | ⟨2, _⟩ => show off + 1 * j.val = off + j.val; omega

theorem pay2_apply (x : FVec Ideal S1x2048x256 .bf16) (t : Fin 2048) (l : Fin 256) : k1_pay2 x (ix2 t l) = x (ix3 0 t l) := by
  pointwise [k1_pay2]
theorem pay3_apply (x : FVec Ideal S1x2048x256 .bf16) (t : Fin 2048) (l : Fin 256) : k1_pay3 x (ix2 t l) = x (ix3 0 t l) := by
  pointwise [k1_pay3]

/-- The place of a block's row in the output. -/
theorem emb_row (off : Fin 3 → Nat) (a : Nat) (hoff : off = ![0, a, 0]) (ha : a + 256 ≤ 2048)
    (inb : ∀ x, off x + (![1, 256, 256] : Fin 3 → Nat) x ≤ S1x2048x256.size x) (i c : Fin 256) :
    (Rect.unit (s := S1x2048x256) off ![1, 256, 256] inb).emb (ix3 0 i c) = ix3 0 ⟨a + i.val, by omega⟩ c := by
  subst hoff
  refine funext fun y => Fin.ext ?_
  match y with
  | ⟨0, _⟩ => rfl
  | ⟨1, _⟩ => show a + 1 * i.val = a + i.val; omega
  | ⟨2, _⟩ => show 0 + 1 * c.val = c.val; omega

section Out

variable (c : Dev nD) (i : grid1.Coords) (arg2 : Memref sig .tc .vmem S1x2048x256 .bf16) (harg2 : arg2.IsWhole)
  (arg3 : Memref sig .tc .vmem S1x2048x256 .bf16) (harg3 : arg3.IsWhole) (arg4 : Memref sig .tc .vmem S1x2048x256 .bf16) (harg4 : arg4.IsWhole)
  (arg5 : Memref sig .tc .vmem S4x256x768 .f32) (harg5 : arg5.IsWhole) (arg6 : Memref sig .tc .vmem S1x2048x256 .bf16) (harg6 : arg6.IsWhole)
  (arg7 : Memref sig .tc .vmem S2560x256 .bf16) (harg7 : arg7.IsWhole) (arg8 : Memref sig .tc .vmem S2560x256 .bf16) (harg8 : arg8.IsWhole)
  (x0 x1 x2 : Vec Ideal S1x2048x256 .bf16) (x3 : Vec Ideal S4x256x768 .f32)

/-- A later block's store writes its rows: the six of them differ in the offsets alone. -/
theorem later_row (n : Nat) (hn : n < 6) (o1 : Fin 2 → Nat) (h1 : o1 = ![512 + 256 * n, 0]) (o2 : Fin 3 → Nat) (h2 : o2 = ![0, 512 + 256 * n, 0])
    (inb1 : ∀ a, o1 a + S768x256.size a ≤ S2560x256.size a) (inb2 : ∀ a, o2 a + S1x256x256.size a ≤ S1x2048x256.size a)
    (inb2' : ∀ a, o2 a + (![1, 256, 256] : Fin 3 → Nat) a ≤ S1x2048x256.size a) (r l : Fin 256) :
    blk768 (View.readAt (Elt Ideal) arg2.view (Rect.unit (s := S1x2048x256) o2 S1x256x256.size inb2).toLoadRect (harg2.unread x0))
      (arg7.view.readCov (Val := Elt Ideal) [⟨Rect.unit (s := S2560x256) ![512, 0] S2048x256.size inb_S2560x256_S2048x256_512_0,
          k1_pay2 (View.readAt (Elt Ideal) arg3.view (Rect.unit (s := S1x2048x256) ![0, 0, 0] S1x2048x256.size inb_S1x2048x256_S1x2048x256_0_0_0).toLoadRect (harg3.unread x1))⟩]
        (Rect.unit (s := S2560x256) o1 S768x256.size inb1).toLoadRect)
      (arg8.view.readCov (Val := Elt Ideal) [⟨Rect.unit (s := S2560x256) ![512, 0] S2048x256.size inb_S2560x256_S2048x256_512_0,
          k1_pay3 (View.readAt (Elt Ideal) arg4.view (Rect.unit (s := S1x2048x256) ![0, 0, 0] S1x2048x256.size inb_S1x2048x256_S1x2048x256_0_0_0).toLoadRect (harg4.unread x2))⟩]
        (Rect.unit (s := S2560x256) o1 S768x256.size inb1).toLoadRect)
      (View.readAt (Elt Ideal) arg5.view (Rect.unit (s := S4x256x768) ![0, 0, 0] S2x256x768.size inb_S4x256x768_S2x256x768_0_0_0).toLoadRect (harg5.unread x3))
      (View.readAt (Elt Ideal) arg5.view (Rect.unit (s := S4x256x768) ![2, 0, 0] S2x256x768.size inb_S4x256x768_S2x256x768_2_0_0).toLoadRect (harg5.unread x3))
      (ix3 0 r l)
    = (fun y : S1x2048x256.Idx => rowOut x0 x1 x2 x3 (y 1) (y 2)) ((Rect.unit (s := S1x2048x256) o2 ![1, 256, 256] inb2').emb (ix3 0 r l)) := by
  rw [emb_row o2 _ h2 (by omega), blk768_apply]
  refine (block_row (n := 768) (n + 2) (256 * n) 0 (by omega) (by omega) (by omega) (by omega) (Or.inr rfl) x0 x1 x2 x3 _ _ _ _ _
    (fun i l => rows_read harg2 x0 o2 (256 * (n + 2)) (by rw [h2]; congr 1; congr 1; omega) (by omega) inb2 i l)
    (fun j l => (keys_read (n := 768) arg7.view _ o1 (256 * n) h1 (by omega) _ inb1 j l).trans
      ((pay2_apply _ _ _).trans (congrFun (whole_read harg3 x1 _) _)))
    (fun j l => (keys_read (n := 768) arg8.view _ o1 (256 * n) h1 (by omega) _ inb1 j l).trans
      ((pay3_apply _ _ _).trans (congrFun (whole_read harg4 x2 _) _)))
    (fun p i j => (bias_read (n := 768) harg5 x3 0 0 (by omega) (by omega) _ p i j).trans
      (congrArg (fun h => x3 (ix3 h i _)) (Fin.ext (Nat.zero_add _))))
    (fun p i j => bias_read (n := 768) harg5 x3 2 0 (by omega) (by omega) _ p i j) r l).trans ?_
  exact congrArg (fun w => rowOut x0 x1 x2 x3 w l) (Fin.ext (by show 256 * (n + 2) + r.val = 512 + 256 * n + r.val; omega))

theorem off1 (n : Fin 6) : k1_off1 (BitVec.ofNat 32 n.val) = ![512 + 256 * n.val, 0] := by
  revert n; decide +kernel
theorem off2 (n : Fin 6) : k1_off2 (BitVec.ofNat 32 n.val) = ![0, 512 + 256 * n.val, 0] := by
  revert n; decide +kernel

/-- What the body leaves in its output block. -/
theorem out_apply (y : S1x2048x256.Idx) :
    out1_A_4 c i arg2 harg2 arg3 harg3 arg4 harg4 arg5 harg5 arg6 harg6 arg7 harg7 arg8 harg8 x0 x1 x2 x3 y
      = rowOut x0 x1 x2 x3 (y 1) (y 2) := by
  unfold out1_A_4
  rw [View.read_writes_junk_eq_canon]
  refine View.canon_apply_of_pieces (fun y => rowOut x0 x1 x2 x3 (y 1) (y 2)) _ ?_ y
    (cover1_A_4 c i arg2 harg2 arg3 harg3 arg4 harg4 arg5 harg5 arg6 harg6 arg7 harg7 arg8 harg8 x0 x1 x2 x3 y)
  unfold kernelRun1_A
  dsimp only
  sl_unfold_words
  intro p hp
  simp only [List.mem_cons, List.not_mem_nil, or_false] at hp
  rcases hp with rfl | rfl | rfl | rfl | rfl | rfl | rfl | rfl
  all_goals
    intro x
    obtain ⟨z, r, l, rfl⟩ : ∃ (z : Fin 1) (r l : Fin 256), x = ix3 z r l := ⟨x 0, x 1, x 2, eq_ix3 x⟩
    obtain rfl : z = 0 := Subsingleton.elim _ _
  · rw [store7]
    exact later_row arg2 harg2 arg3 harg3 arg4 harg4 arg5 harg5 arg7 arg8 x0 x1 x2 x3 5 (by decide) _ (off1 5) _ (off2 5) (k1_off1_inb 5) (k1_off2_inb 5) (k1_off2_inb 5) r l
  · rw [store6]
    exact later_row arg2 harg2 arg3 harg3 arg4 harg4 arg5 harg5 arg7 arg8 x0 x1 x2 x3 4 (by decide) _ (off1 4) _ (off2 4) (k1_off1_inb 4) (k1_off2_inb 4) (k1_off2_inb 4) r l
  · rw [store5]
    exact later_row arg2 harg2 arg3 harg3 arg4 harg4 arg5 harg5 arg7 arg8 x0 x1 x2 x3 3 (by decide) _ (off1 3) _ (off2 3) (k1_off1_inb 3) (k1_off2_inb 3) (k1_off2_inb 3) r l
  · rw [store4]
    exact later_row arg2 harg2 arg3 harg3 arg4 harg4 arg5 harg5 arg7 arg8 x0 x1 x2 x3 2 (by decide) _ (off1 2) _ (off2 2) (k1_off1_inb 2) (k1_off2_inb 2) (k1_off2_inb 2) r l
  · rw [store3]
    exact later_row arg2 harg2 arg3 harg3 arg4 harg4 arg5 harg5 arg7 arg8 x0 x1 x2 x3 1 (by decide) _ (off1 1) _ (off2 1) (k1_off1_inb 1) (k1_off2_inb 1) (k1_off2_inb 1) r l
  · rw [store2]
    exact later_row arg2 harg2 arg3 harg3 arg4 harg4 arg5 harg5 arg7 arg8 x0 x1 x2 x3 0 (by decide) _ (off1 0) _ (off2 0) (k1_off1_inb 0) (k1_off2_inb 0) (k1_off2_inb 0) r l
  · rw [store1]
    refine (blk512_apply _ _ _ _ _ r l).trans ((block_row (n := 512) 1 0 256 (by omega) (by omega) (by omega) (by omega) (Or.inl rfl) x0 x1 x2 x3 _ _ _ _ _
      (fun i l => rows_read harg2 x0 _ 256 rfl (by omega) _ i l)
      (fun j l => (keys_read (n := 512) arg7.view _ _ 0 rfl (by omega) _ _ j l).trans
        ((pay2_apply _ _ _).trans (congrFun (whole_read harg3 x1 _) _)))
      (fun j l => (keys_read (n := 512) arg8.view _ _ 0 rfl (by omega) _ _ j l).trans
        ((pay3_apply _ _ _).trans (congrFun (whole_read harg4 x2 _) _)))
      (fun p i j => (bias_read (n := 512) harg5 x3 0 256 (by omega) (by omega) _ p i j).trans
        (congrArg (fun h => x3 (ix3 h i _)) (Fin.ext (Nat.zero_add _))))
      (fun p i j => bias_read (n := 512) harg5 x3 2 256 (by omega) (by omega) _ p i j) r l).trans ?_)
    exact (congrArg (fun y : S1x2048x256.Idx => rowOut x0 x1 x2 x3 (y 1) (y 2)) (emb_row _ 256 rfl (by omega) inb_S1x2048x256_S1x256x256_0_256_0 r l)).symm
  · rw [store0]
    refine (blk256_apply _ _ _ _ _ r l).trans ((block_row (n := 256) 0 0 512 (by omega) (by omega) (by omega) (by omega) (Or.inl rfl) x0 x1 x2 x3 _ _ _ _ _
      (fun i l => rows_read harg2 x0 _ 0 rfl (by omega) _ i l)
      (fun j l => (keys_read (n := 256) arg7.view _ _ 0 rfl (by omega) _ _ j l).trans
        ((pay2_apply _ _ _).trans (congrFun (whole_read harg3 x1 _) _)))
      (fun j l => (keys_read (n := 256) arg8.view _ _ 0 rfl (by omega) _ _ j l).trans
        ((pay3_apply _ _ _).trans (congrFun (whole_read harg4 x2 _) _)))
      (fun p i j => (bias_read (n := 256) harg5 x3 0 512 (by omega) (by omega) _ p i j).trans
        (congrArg (fun h => x3 (ix3 h i _)) (Fin.ext (Nat.zero_add _))))
      (fun p i j => bias_read (n := 256) harg5 x3 2 512 (by omega) (by omega) _ p i j) r l).trans ?_)
    exact (congrArg (fun y : S1x2048x256.Idx => rowOut x0 x1 x2 x3 (y 1) (y 2)) (emb_row _ 0 rfl (by omega) inb_S1x2048x256_S1x256x256_0_0_0 r l)).symm

end Out

end Cert.KernelIdeal.Attn
-- ==== Proof.Array.lean ====
module

public import proofs.«01_k».proof.Proof.Region

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

/-- The score of query `r` of sequence `b` against token `t`, in the head of column `c` of the whole arrays. -/
def fullScore (q k : FVec Ideal S16x2048x1024 .bf16) (bias : FVec Ideal S16x256x768 .f32) (b : Fin 16) (r : Fin 2048) (c : Fin 1024) (t : Fin 2048) : EReal :=
  if h : 256 * (r.val / 256) ≤ t.val + 512 ∧ t.val < 256 * (r.val / 256) + 256 then
    (∑ d : Fin 64, q (ix3 b r ⟨64 * (c.val / 64) + d.val, by omega⟩) * k (ix3 b t ⟨64 * (c.val / 64) + d.val, by omega⟩))
      + bias (ix3 ⟨c.val / 64, by omega⟩ ⟨r.val % 256, by omega⟩ ⟨t.val + 512 - 256 * (r.val / 256), by omega⟩)
  else ⊥

/-- The attention's output at an index, from its arrays. -/
def fullOut (q k v : FVec Ideal S16x2048x1024 .bf16) (bias : FVec Ideal S16x256x768 .f32) : FVec Ideal S16x2048x1024 .bf16 :=
  fun y => mean (fullScore q k bias (y 0) (y 1) (y 2)) (fun t => v (ix3 (y 0) t (y 2)))

theorem index1_0 (t : Fin cfg1.N) : win1_0.index t 0 = t.val / 4 ∧ win1_0.index t 1 = 0 ∧ win1_0.index t 2 = t.val % 4 :=
  (by decide +kernel : ∀ t : Fin grid1.N, win1_0.index t 0 = t.val / 4 ∧ win1_0.index t 1 = 0 ∧ win1_0.index t 2 = t.val % 4) t
theorem index1_1 (t : Fin cfg1.N) : win1_1.index t 0 = t.val / 4 ∧ win1_1.index t 1 = 0 ∧ win1_1.index t 2 = t.val % 4 :=
  (by decide +kernel : ∀ t : Fin grid1.N, win1_1.index t 0 = t.val / 4 ∧ win1_1.index t 1 = 0 ∧ win1_1.index t 2 = t.val % 4) t
theorem index1_2 (t : Fin cfg1.N) : win1_2.index t 0 = t.val / 4 ∧ win1_2.index t 1 = 0 ∧ win1_2.index t 2 = t.val % 4 :=
  (by decide +kernel : ∀ t : Fin grid1.N, win1_2.index t 0 = t.val / 4 ∧ win1_2.index t 1 = 0 ∧ win1_2.index t 2 = t.val % 4) t
theorem index1_3 (t : Fin cfg1.N) : win1_3.index t 0 = t.val % 4 ∧ win1_3.index t 1 = 0 ∧ win1_3.index t 2 = 0 :=
  (by decide +kernel : ∀ t : Fin grid1.N, win1_3.index t 0 = t.val % 4 ∧ win1_3.index t 1 = 0 ∧ win1_3.index t 2 = 0) t
theorem index1_4 (t : Fin cfg1.N) : win1_4.index t 0 = t.val / 4 ∧ win1_4.index t 1 = 0 ∧ win1_4.index t 2 = t.val % 4 :=
  (by decide +kernel : ∀ t : Fin grid1.N, win1_4.index t 0 = t.val / 4 ∧ win1_4.index t 1 = 0 ∧ win1_4.index t 2 = t.val % 4) t

theorem points1 : cfg1.N = 64 := by decide +kernel
theorem seq_lt (t : Fin cfg1.N) : t.val / 4 < 16 := by have h := t.isLt; have hN := points1; omega

section Blocks

variable (X : FVec Ideal S16x2048x1024 .bf16) (t : Fin cfg1.N) (r : Fin 2048) (l : Fin 256)

theorem block0 : (win1_0.blk t).view.read (Elt Ideal) X (ix3 0 r l) = X (ix3 ⟨t.val / 4, seq_lt t⟩ r ⟨256 * (t.val % 4) + l.val, by omega⟩) := by
  obtain ⟨h0, h1, h2⟩ := index1_0 t
  refine congrArg X (funext fun a => Fin.ext ?_)
  match a with
  | ⟨0, _⟩ => show win1_0.index t 0 * 1 + 1 * 0 = t.val / 4; rw [h0]; omega
  | ⟨1, _⟩ => show win1_0.index t 1 * 2048 + 1 * r.val = r.val; rw [h1]; omega
  | ⟨2, _⟩ => show win1_0.index t 2 * 256 + 1 * l.val = 256 * (t.val % 4) + l.val; rw [h2]; omega

theorem block1 : (win1_1.blk t).view.read (Elt Ideal) X (ix3 0 r l) = X (ix3 ⟨t.val / 4, seq_lt t⟩ r ⟨256 * (t.val % 4) + l.val, by omega⟩) := by
  obtain ⟨h0, h1, h2⟩ := index1_1 t
  refine congrArg X (funext fun a => Fin.ext ?_)
  match a with
  | ⟨0, _⟩ => show win1_1.index t 0 * 1 + 1 * 0 = t.val / 4; rw [h0]; omega
  | ⟨1, _⟩ => show win1_1.index t 1 * 2048 + 1 * r.val = r.val; rw [h1]; omega
  | ⟨2, _⟩ => show win1_1.index t 2 * 256 + 1 * l.val = 256 * (t.val % 4) + l.val; rw [h2]; omega

theorem block2 : (win1_2.blk t).view.read (Elt Ideal) X (ix3 0 r l) = X (ix3 ⟨t.val / 4, seq_lt t⟩ r ⟨256 * (t.val % 4) + l.val, by omega⟩) := by
  obtain ⟨h0, h1, h2⟩ := index1_2 t
  refine congrArg X (funext fun a => Fin.ext ?_)
  match a with
  | ⟨0, _⟩ => show win1_2.index t 0 * 1 + 1 * 0 = t.val / 4; rw [h0]; omega
  | ⟨1, _⟩ => show win1_2.index t 1 * 2048 + 1 * r.val = r.val; rw [h1]; omega
  | ⟨2, _⟩ => show win1_2.index t 2 * 256 + 1 * l.val = 256 * (t.val % 4) + l.val; rw [h2]; omega

theorem block4 : (win1_4.blk t).view.read (Elt Ideal) X (ix3 0 r l) = X (ix3 ⟨t.val / 4, seq_lt t⟩ r ⟨256 * (t.val % 4) + l.val, by omega⟩) := by
  obtain ⟨h0, h1, h2⟩ := index1_4 t
  refine congrArg X (funext fun a => Fin.ext ?_)
  match a with
  | ⟨0, _⟩ => show win1_4.index t 0 * 1 + 1 * 0 = t.val / 4; rw [h0]; omega
  | ⟨1, _⟩ => show win1_4.index t 1 * 2048 + 1 * r.val = r.val; rw [h1]; omega
  | ⟨2, _⟩ => show win1_4.index t 2 * 256 + 1 * l.val = 256 * (t.val % 4) + l.val; rw [h2]; omega

theorem block3 (B : FVec Ideal S16x256x768 .f32) (p : Fin 4) (i : Fin 256) (j : Fin 768) :
    (win1_3.blk t).view.read (Elt Ideal) B (ix3 p i j) = B (ix3 ⟨4 * (t.val % 4) + p.val, by omega⟩ i j) := by
  obtain ⟨h0, h1, h2⟩ := index1_3 t
  refine congrArg B (funext fun a => Fin.ext ?_)
  match a with
  | ⟨0, _⟩ => show win1_3.index t 0 * 4 + 1 * p.val = 4 * (t.val % 4) + p.val; rw [h0]; omega
  | ⟨1, _⟩ => show win1_3.index t 1 * 256 + 1 * i.val = i.val; rw [h1]; omega
  | ⟨2, _⟩ => show win1_3.index t 2 * 768 + 1 * j.val = j.val; rw [h2]; omega

end Blocks

/-- The block the body leaves at point `t` is that block of the whole output. -/
theorem rowOut_block (q k v : FVec Ideal S16x2048x1024 .bf16) (bias : FVec Ideal S16x256x768 .f32) (t : Fin cfg1.N) (r : Fin 2048) (l : Fin 256) :
    rowOut ((win1_0.blk t).view.read (Elt Ideal) q) ((win1_1.blk t).view.read (Elt Ideal) k) ((win1_2.blk t).view.read (Elt Ideal) v)
      ((win1_3.blk t).view.read (Elt Ideal) bias) r l
    = fullOut q k v bias (ix3 ⟨t.val / 4, seq_lt t⟩ r ⟨256 * (t.val % 4) + l.val, by omega⟩) := by
  refine congrArg₂ mean (funext fun s => ?_) (funext fun s => block2 v t s l)
  unfold rowScore fullScore
  refine dite_congr rfl (fun h => ?_) (fun _ => rfl)
  have hl : (256 * (t.val % 4) + l.val) / 64 = 4 * (t.val % 4) + l.val / 64 := by omega
  refine congrArg₂ (· + ·) (Finset.sum_congr rfl fun d _ => ?_) ?_
  · rw [block0 q t r, block1 k t s]
    have e : ∀ h h', (⟨256 * (t.val % 4) + (64 * (l.val / 64) + d.val), h⟩ : Fin 1024) = ⟨64 * ((256 * (t.val % 4) + l.val) / 64) + d.val, h'⟩ :=
      fun _ _ => Fin.ext (by show 256 * (t.val % 4) + (64 * (l.val / 64) + d.val) = 64 * ((256 * (t.val % 4) + l.val) / 64) + d.val; omega)
    exact congrArg₂ (· * ·) (congrArg (fun x => q (ix3 _ r x)) (e _ _)) (congrArg (fun x => k (ix3 _ s x)) (e _ _))
  · rw [block3 t bias]
    exact congrArg (fun x => bias (ix3 x _ _)) (Fin.ext hl.symm)

variable (V : (c : Dev nD) → (b : Ref sig .tc) → Buf (Elt Ideal) ((c : Thread nD τ).loc b))

theorem flushed_eq (c : Dev nD) (t : Fin cfg1.N) :
    (dat1 V c).flushed 4 t = ((cfg1.win 4).blk t).view.read (Elt Ideal) (fullOut (V c main_v3) (V c main_v22) (V c main_v24) (V c main_v20)) := by
  show (cfg1.win 4).cut (grid1.coords t) ((dat1 V c).after 4 t) = _
  rw [after1_4]
  funext x
  obtain ⟨z, r, l, rfl⟩ : ∃ (z : Fin 1) (r : Fin 2048) (l : Fin 256), x = ix3 z r l := ⟨x 0, x 1, x 2, eq_ix3 x⟩
  obtain rfl : z = 0 := Subsingleton.elim _ _
  refine Eq.trans ?_ (block4 _ t r l).symm
  refine Eq.trans ?_ (rowOut_block (V c main_v3) (V c main_v22) (V c main_v24) (V c main_v20) t r l)
  exact out_apply _ _ _ _ _ _ _ _ _ _ _ _ _ _ _ _ _ _ _ _ (ix3 0 r l)

theorem mem_blk (t : Fin cfg1.N) (y : S16x2048x1024.Idx) :
    y ∈ ((cfg1.win 4).blk t).view.set ↔ (y 0 : Nat) = t.val / 4 ∧ 256 * (t.val % 4) ≤ (y 2 : Nat) ∧ (y 2 : Nat) < 256 * (t.val % 4) + 256 := by
  show y ∈ ((View.whole main_v25).slice (win1_4.rect t)).set ↔ _
  rw [View.set_slice_whole, Rect.mem_set_unit]
  obtain ⟨h0, h1, h2⟩ := index1_4 t
  have hy : (y 1 : Nat) < 2048 := (y 1).isLt
  refine ⟨fun h => ?_, fun h a => ?_⟩
  · have a0 : win1_4.index t 0 * 1 ≤ (y 0 : Nat) ∧ (y 0 : Nat) < win1_4.index t 0 * 1 + 1 := h 0
    have a2 : win1_4.index t 2 * 256 ≤ (y 2 : Nat) ∧ (y 2 : Nat) < win1_4.index t 2 * 256 + 256 := h 2
    rw [h0] at a0; rw [h2] at a2
    omega
  · match a with
    | ⟨0, _⟩ => show win1_4.index t 0 * 1 ≤ (y 0 : Nat) ∧ (y 0 : Nat) < win1_4.index t 0 * 1 + 1; rw [h0]; omega
    | ⟨1, _⟩ => show win1_4.index t 1 * 2048 ≤ (y 1 : Nat) ∧ (y 1 : Nat) < win1_4.index t 1 * 2048 + 2048; rw [h1]; omega
    | ⟨2, _⟩ => show win1_4.index t 2 * 256 ≤ (y 2 : Nat) ∧ (y 2 : Nat) < win1_4.index t 2 * 256 + 256; rw [h2]; omega

theorem cover (y : S16x2048x1024.Idx) : ∃ t : Fin cfg1.N, (cfg1.win 4).flush t = true ∧ y ∈ ((cfg1.win 4).blk t).view.set := by
  have h0 : (y 0 : Nat) < 16 := (y 0).isLt
  have h2 : (y 2 : Nat) < 1024 := (y 2).isLt
  have ht : 4 * (y 0 : Nat) + (y 2 : Nat) / 256 < cfg1.N := by rw [points1]; omega
  refine ⟨⟨_, ht⟩, flush1_4 _, ?_⟩
  rw [mem_blk]
  dsimp only
  omega

/-- The attention's array after its launch. -/
theorem attn_final (c : Dev nD) : (dat1 V c).arrAt 4 cfg1.N = fullOut (V c main_v3) (V c main_v22) (V c main_v24) (V c main_v20) :=
  Dat.arrAt_eq_of_cover _ 4 _ (fun t _ => flushed_eq V c t) cover

end Cert.KernelIdeal.Attn
-- ==== Proof.Host.lean ====
module

public import proofs.«01_k».proof.Proof.Gen.KernelIdeal.Frame
public import proofs.«01_k».proof.Proof.Consts
public import Idealize.ShloMosaic.Lib.StableHlo.ReadAt

@[expose] public section

set_option maxRecDepth 16384

noncomputable section

namespace Cert.KernelIdeal.Attn

open Idealize.ShloMosaic Idealize.ShloMosaic.TcCoe Idealize.SL.Sem
open Cert.KernelIdeal Cert.KernelIdeal.Gen

/-- The distance of every diagonal. -/
def diagDist : IVec S1023 32 := subi (broadcastInDim S1023 ![] bcast_S_S1023 (constantI S_ 32 767#32)) (iotaInDim S1023 32 0)

/-- The distances clipped. -/
def diagClip : IVec S1023 32 :=
  minsi (broadcastInDim S1023 ![] bcast_S_S1023 (id (constantI S_ 32 128#32)))
    (maxsi (broadcastInDim S1023 ![] bcast_S_S1023 (id (constantI S_ 32 4294967168#32))) diagDist)

/-- The table's column of every diagonal. -/
def diagCol : IVec S1023 32 := addi diagClip (broadcastInDim S1023 ![] bcast_S_S1023 (constantI S_ 32 128#32))

/-- Those columns as start indices. -/
def diagIdx : IVec S1023x1 32 :=
  broadcastInDim S1023x1 ![0] bcast_S1023_S1023x1_0
    (select (cmpi .slt diagCol (broadcastInDim S1023 ![] bcast_S_S1023 (constantI S_ 32 0#32)))
      (addi diagCol (broadcastInDim S1023 ![] bcast_S_S1023 (constantI S_ 32 257#32))) diagCol)

/-- The diagonals' biases. -/
def diags (tab : FVec Ideal S16x257 .f32) : FVec Ideal S16x1023 .f32 := Host.gather gather_S16x257_S1023x1_S16x1023_0_1_n_n_1_1_161 tab diagIdx

/-- The same, one zero longer. -/
def padded (tab : FVec Ideal S16x257 .f32) : FVec Ideal S16x1024 .f32 :=
  pad S16x1024 ![0, 0] ![0, 1] ![0, 0] (diags tab) (sitofp .f32 (constantI S_ 32 0#32)) pads_S16x1023_S16x1024_000_010 h_S_

/-- The same, rolled. -/
def rolled (tab : FVec Ideal S16x257 .f32) : FVec Ideal S16x1024 .f32 :=
  concatenate S16x1024 1 [⟨S16x769, extractStridedSlice S16x769 ![0, 255] (padded tab) slices_S16x1024_S16x769_0_255⟩,
    ⟨S16x255, extractStridedSlice S16x255 ![0, 0] (padded tab) slices_S16x1024_S16x255_0_0⟩] concatenates_S16x769_S16x255_S16x1024_d1

/-- The rows the bias's launch takes. -/
def biasRows (tab : FVec Ideal S16x257 .f32) : FVec Ideal S16x1x1024 .f32 := shapeCast S16x1x1024 (rolled tab) shapeCasts_S16x1024_S16x1x1024

variable (m : (ℓ : Loc nD τ sig) → Buf (Elt Ideal) ℓ) (ρ : Dev nD → PrngReg) (c : Dev nD)

theorem host_v6 : W1 m ρ c (Proc.devRef .tc main_v6) = diagDist := by
  after_reads_simp
  rfl
theorem host_low : W1 m ρ c (Proc.devRef .tc main_c_0) = constantI S_ 32 4294967168#32 := by
  after_reads_simp
theorem host_high : W1 m ρ c (Proc.devRef .tc main_c_1) = constantI S_ 32 128#32 := by
  after_reads_simp

theorem host_v7_of (V : Valuation τ sig (Elt Ideal)) : StableHlo.after hostOps0_1 V (Proc.devRef .tc main_v7)
    = (minsi (broadcastInDim S1023 ![] bcast_S_S1023 (id (V (Proc.devRef .tc main_c_1))))
        (maxsi (broadcastInDim S1023 ![] bcast_S_S1023 (id (V (Proc.devRef .tc main_c_0)))) (V (Proc.devRef .tc main_v6))) : IVec S1023 32) := by
  after_reads_simp
  rfl
theorem host_v7 : W2 m ρ c (Proc.devRef .tc main_v7) = diagClip := by
  refine (host_v7_of (W1 m ρ c)).trans ?_
  rw [host_v6, host_low, host_high]
  rfl

theorem host_v16_of (V : Valuation τ sig (Elt Ideal)) (h : V (Proc.devRef .tc main_v7) = diagClip) :
    StableHlo.after hostOps0_2 V (Proc.devRef .tc main_v16) = diags (V (Proc.devRef .tc main_arg3)) := by
  after_reads_simp
  rw [h]
  rfl
theorem host_zero : W3 m ρ c (Proc.devRef .tc main_c_5) = constantI S_ 32 0#32 := by
  after_reads_simp
theorem host_v16 : W3 m ρ c (Proc.devRef .tc main_v16) = diags (m ((c : Thread nD τ).loc main_arg3)) :=
  (host_v16_of (W2 m ρ c) (host_v7 m ρ c)).trans (congrArg diags (W2_args m ρ c main_arg3 (by decide)))

theorem host_v17_of (V : Valuation τ sig (Elt Ideal)) : StableHlo.after hostOps0_3 V (Proc.devRef .tc main_v17)
    = (pad S16x1024 ![0, 0] ![0, 1] ![0, 0] (V (Proc.devRef .tc main_v16)) (sitofp .f32 (V (Proc.devRef .tc main_c_5))) pads_S16x1023_S16x1024_000_010 h_S_ : FVec Ideal S16x1024 .f32) := by
  after_reads_simp
  rfl
theorem host_v17 : W4 m ρ c (Proc.devRef .tc main_v17) = padded (m ((c : Thread nD τ).loc main_arg3)) := by
  refine (host_v17_of (W3 m ρ c)).trans ?_
  rw [host_v16, host_zero]
  rfl

theorem host_v18_of (V : Valuation τ sig (Elt Ideal)) (tab : FVec Ideal S16x257 .f32) (h : V (Proc.devRef .tc main_v17) = padded tab) :
    StableHlo.after hostOps0_4 V (Proc.devRef .tc main_v18) = rolled tab := by
  show StableHlo.after hostOps0_4 V (Proc.devRef .tc main_v18) = concatenate S16x1024 1 [⟨S16x769, extractStridedSlice S16x769 ![0, 255] (padded tab) slices_S16x1024_S16x769_0_255⟩,
    ⟨S16x255, extractStridedSlice S16x255 ![0, 0] (padded tab) slices_S16x1024_S16x255_0_0⟩] concatenates_S16x769_S16x255_S16x1024_d1
  rw [← h]
  rfl
theorem host_v19_of (V : Valuation τ sig (Elt Ideal)) (tab : FVec Ideal S16x257 .f32) (h : V (Proc.devRef .tc main_v18) = rolled tab) :
    StableHlo.after hostOps0_5 V (Proc.devRef .tc main_v19) = biasRows tab := by
  after_reads_simp
  rw [h]
  rfl
theorem host_rows : W6 m ρ c (Proc.devRef .tc main_v19) = biasRows (m ((c : Thread nD τ).loc main_arg3)) :=
  host_v19_of (W5 m ρ c) _ (host_v18_of (W4 m ρ c) _ (host_v17 m ρ c))

/-- The scaled queries, laid out by token. -/
def queries (q : FVec Ideal S16x2048x16x64 .f32) : FVec Ideal S16x2048x1024 .bf16 :=
  truncf .bf16 (mulf (shapeCast S16x2048x1024 q shapeCasts_S16x2048x16x64_S16x2048x1024) (broadcastInDim S16x2048x1024 ![] bcast_S_S16x2048x1024 (constant S_ .f32 0x3E000000#32))) bitsLt_bf16_f32

/-- The keys, or the values, laid out by token. -/
def byToken (k : FVec Ideal S16x2048x16x64 .f32) : FVec Ideal S16x2048x1024 .bf16 :=
  truncf .bf16 (shapeCast S16x2048x1024 k shapeCasts_S16x2048x16x64_S16x2048x1024) bitsLt_bf16_f32

theorem host_v3_first : W1 m ρ c (Proc.devRef .tc main_v3) = queries (m ((c : Thread nD τ).loc main_arg0)) := by
  after_reads_simp
  rfl
theorem host_queries : W8 m ρ c (Proc.devRef .tc main_v3) = queries (m ((c : Thread nD τ).loc main_arg0)) :=
  (W8_of m ρ c main_v3 (by decide)).trans ((W7_of m ρ c main_v3 (by decide)).trans ((W6_of m ρ c main_v3 (by decide)).trans
    ((W5_of m ρ c main_v3 (by decide)).trans ((W4_of m ρ c main_v3 (by decide)).trans ((W3_of m ρ c main_v3 (by decide)).trans
      ((W2_of m ρ c main_v3 (by decide)).trans (host_v3_first m ρ c)))))))

theorem host_v22_of (V : Valuation τ sig (Elt Ideal)) : StableHlo.after hostOps1 V (Proc.devRef .tc main_v22) = byToken (V (Proc.devRef .tc main_arg1)) := by
  after_reads_simp
  rfl
theorem host_v24_of (V : Valuation τ sig (Elt Ideal)) : StableHlo.after hostOps1 V (Proc.devRef .tc main_v24) = byToken (V (Proc.devRef .tc main_arg2)) := by
  after_reads_simp
  rfl
theorem host_keys : W8 m ρ c (Proc.devRef .tc main_v22) = byToken (m ((c : Thread nD τ).loc main_arg1)) :=
  (host_v22_of (W7 m ρ c)).trans (congrArg byToken (W7_args m ρ c main_arg1 (by decide)))
theorem host_values : W8 m ρ c (Proc.devRef .tc main_v24) = byToken (m ((c : Thread nD τ).loc main_arg2)) :=
  (host_v24_of (W7 m ρ c)).trans (congrArg byToken (W7_args m ρ c main_arg2 (by decide)))

theorem host_bias : W8 m ρ c (Proc.devRef .tc main_v20) = (dat0 (V6 m ρ) c).arrAt 1 cfg0.N :=
  (W8_of m ρ c main_v20 (by decide)).trans (W7_arr m ρ c 1)

end Cert.KernelIdeal.Attn
-- ==== Proof.Bias.lean ====
module

public import proofs.«01_k».proof.Proof.Region

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

/-- The bias of query `i` and key `j` of a tile, from a head's row: the row's entry `j − i` (around its end) where the key's chunk is visible. -/
def biasAt (row : Fin 1024 → EReal) (i : Fin 256) (j : Fin 768) : EReal :=
  if i.val / 64 ≤ j.val / 64 ∧ j.val / 64 ≤ i.val / 64 + 8 then row ⟨(j.val + 1024 - i.val) % 1024, by omega⟩ else ⊥

theorem query_chunk (i : Fin 256) (j : Fin 768) : k0_pay3 (ix2 i j) = BitVec.ofNat 32 (i.val / 64) := by
  pointwise [k0_pay3]
  revert i; decide +kernel

/-- The chunk of every key of a tile. -/
def keyChunk : IVec S256x768 32 :=
  select (andi (cmpi .ne k0_pay5 (broadcast S256x768 (Scalar.subi (Scalar.extui (Scalar.cmpi .sgt 64#32 0#32)) (Scalar.extui (Scalar.cmpi .slt 64#32 0#32)))))
      (cmpi .ne (remsi (iota .tc S256x768 32 [1] iota_S256x768_d1_w32) (broadcast S256x768 64#32)) (broadcast S256x768 0#32)))
    (subi k0_pay4 (broadcast S256x768 1#32)) k0_pay4

theorem key_chunk (i : Fin 256) (j : Fin 768) : keyChunk (ix2 i j) = BitVec.ofNat 32 (j.val / 64) := by
  pointwise [keyChunk, k0_pay4, k0_pay5]
  revert j; decide +kernel

/-- Whether key chunk `b` is visible from query chunk `a`, as a bit. -/
theorem visible_word : ∀ (a : Fin 4) (b : Fin 12), IntOp.andi (IntOp.cmpi .sge (BitVec.ofNat 32 b.val) (BitVec.ofNat 32 a.val))
    (IntOp.cmpi .sle (BitVec.ofNat 32 b.val) (IntOp.addi (BitVec.ofNat 32 a.val) 8#32)) = if a.val ≤ b.val ∧ b.val ≤ a.val + 8 then 1#1 else 0#1 := by
  decide +kernel

/-- A rotation of row `i` by `i`, at an index. -/
theorem rotate_row {α : Type} {n w : Nat} (x : (⟨2, ![n, w]⟩ : Shape).Idx → α) (h : (⟨2, ![n, w]⟩ : Shape).Rotates 1 (some (1, 0))) (i : Fin n) (m : Fin w) :
    dynamicRotate (s := ⟨2, ![n, w]⟩) 1 0#32 (some (1, 0)) x h (ix2 i m) = x (ix2 i ⟨(m.val + w - i.val % w) % w, Nat.mod_lt _ (Fin.pos m)⟩) := by
  refine congrArg x (funext fun b => ?_)
  match b with
  | ⟨0, _⟩ => rfl
  | ⟨1, _⟩ =>
    refine Fin.ext ?_
    show (m.val + w - ((0#32).toNat + 1 * i.val) % w) % w = _
    rw [show (0#32).toNat + 1 * i.val = i.val by simp]
    rfl

theorem rotated_apply (x0 : FVec Ideal S1x1x1024 .f32) (i : Fin 256) (m : Fin 1024) :
    k0_pay2 x0 (ix2 i m) = x0 (ix3 0 0 ⟨(m.val + 1024 - i.val) % 1024, by omega⟩) := by
  have e : (⟨(m.val + 1024 - i.val % 1024) % 1024, Nat.mod_lt _ (Fin.pos m)⟩ : Fin 1024) = ⟨(m.val + 1024 - i.val) % 1024, by omega⟩ :=
    Fin.ext (by show (m.val + 1024 - i.val % 1024) % 1024 = (m.val + 1024 - i.val) % 1024; omega)
  show dynamicRotate (s := ⟨2, ![256, 1024]⟩) 1 0#32 (some (1, 0)) (broadcastTo S256x1024 (shapeCast S1x1024 (shapeCast S1x1024 x0 shapeCasts_S1x1x1024_S1x1024)
      shapeCasts_S1x1024_S1x1024) broadcasts_S1x1024_S256x1024) rotates_S256x1024_d1s1a0 (ix2 i m) = _
  rw [rotate_row, e]
  pointwise

theorem bias_store (v4 : FVec Ideal S256x1024 .f32) (i : Fin 256) (j : Fin 768) :
    k0_pay1 v4 k0_pay3 (iota .tc S256x768 32 [1] iota_S256x768_d1_w32) 64#32 k0_pay4 k0_pay5 (Scalar.extui (Scalar.cmpi .sgt 64#32 0#32)) (Scalar.cmpi .slt 64#32 0#32) (ix3 0 i j)
      = if i.val / 64 ≤ j.val / 64 ∧ j.val / 64 ≤ i.val / 64 + 8 then v4 (ix2 i ⟨j.val, by omega⟩) else ⊥ := by
  have e : k0_pay1 v4 k0_pay3 (iota .tc S256x768 32 [1] iota_S256x768_d1_w32) 64#32 k0_pay4 k0_pay5 (Scalar.extui (Scalar.cmpi .sgt 64#32 0#32)) (Scalar.cmpi .slt 64#32 0#32)
      = shapeCast S1x256x768 (select (andi (cmpi .sge keyChunk k0_pay3) (cmpi .sle keyChunk (addi k0_pay3 (broadcast S256x768 8#32))))
          (extractStridedSlice S256x768 ![0, 0] v4 slices_S256x1024_o0_0_S256x768) (broadcast S256x768 (Named.named κ "mask" 0xF149F2CA#32))) shapeCasts_S256x768_S1x256x768 := rfl
  rw [e]
  pointwise [query_chunk, key_chunk]
  rw [visible_word ⟨i.val / 64, by omega⟩ ⟨j.val / 64, by omega⟩]
  by_cases hv : i.val / 64 ≤ j.val / 64 ∧ j.val / 64 ≤ i.val / 64 + 8
  · rw [if_pos hv, if_pos hv]
    rfl
  · rw [if_neg hv, if_neg hv]
    rfl

theorem row_read (x0 : FVec Ideal S1x1x1024 .f32) : View.ld (Val := Elt Ideal) (e' := .f32) x0 r0_0 = x0 :=
  View.ld_unit_zero (Val := Elt Ideal) (e := .f32) (S := S1x1x1024) zeros3 inb_S1x1x1024_S1x1x1024_0_0_0 x0

/-- What the bias's body leaves in its block. -/
def biasBlock (x0 : FVec Ideal S1x1x1024 .f32) : FVec Ideal S1x256x768 .f32 :=
  fun y => biasAt (fun m => x0 (ix3 0 0 m)) (y 1) (y 2)

theorem block_place (y : S1x256x768.Idx) : r0_1.emb y = y :=
  funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)

theorem bias_out (x0 : FVec Ideal S1x1x1024 .f32) : out0_1 (F := Ideal) x0 = biasBlock x0 := by
  funext y
  unfold out0_1
  refine View.canon_apply_of_pieces (Val := Elt Ideal) (biasBlock x0) _ ?_ y (cover0_1 _ y)
  intro p hp
  obtain rfl := List.mem_singleton.mp hp
  intro x
  obtain ⟨z, i, j, rfl⟩ : ∃ (z : Fin 1) (i : Fin 256) (j : Fin 768), x = ix3 z i j := ⟨x 0, x 1, x 2, eq_ix3 x⟩
  obtain rfl : z = 0 := Subsingleton.elim _ _
  refine Eq.trans ?_ (congrArg (biasBlock x0) (block_place (ix3 0 i j))).symm
  refine (bias_store _ i j).trans ?_
  rw [rotated_apply, row_read]
  rfl

/-- The bias array of every head, from the heads' rows. -/
def biasArr (rows : FVec Ideal S16x1x1024 .f32) : FVec Ideal S16x256x768 .f32 :=
  fun y => biasAt (fun m => rows (ix3 (y 0) 0 m)) (y 1) (y 2)

theorem index0_0 (t : Fin cfg0.N) : win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0) t
theorem index0_1 (t : Fin cfg0.N) : win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0) t

theorem points0 : cfg0.N = 16 := by decide +kernel
theorem head_lt (t : Fin cfg0.N) : t.val < 16 := by have h := t.isLt; have hN := points0; omega

theorem row_block (rows : FVec Ideal S16x1x1024 .f32) (t : Fin cfg0.N) (m : Fin 1024) :
    (win0_0.blk t).view.read (Elt Ideal) rows (ix3 0 0 m) = rows (ix3 ⟨t.val, head_lt t⟩ 0 m) := by
  obtain ⟨h0, h1, h2⟩ := index0_0 t
  refine congrArg rows (funext fun a => Fin.ext ?_)
  match a with
  | ⟨0, _⟩ => show win0_0.index t 0 * 1 + 1 * 0 = t.val; rw [h0]; omega
  | ⟨1, _⟩ => show win0_0.index t 1 * 1 + 1 * 0 = 0; rw [h1]
  | ⟨2, _⟩ => show win0_0.index t 2 * 1024 + 1 * m.val = m.val; rw [h2]; omega

theorem bias_block (B : FVec Ideal S16x256x768 .f32) (t : Fin cfg0.N) (i : Fin 256) (j : Fin 768) :
    (win0_1.blk t).view.read (Elt Ideal) B (ix3 0 i j) = B (ix3 ⟨t.val, head_lt t⟩ i j) := by
  obtain ⟨h0, h1, h2⟩ := index0_1 t
  refine congrArg B (funext fun a => Fin.ext ?_)
  match a with
  | ⟨0, _⟩ => show win0_1.index t 0 * 1 + 1 * 0 = t.val; rw [h0]; omega
  | ⟨1, _⟩ => show win0_1.index t 1 * 256 + 1 * i.val = i.val; rw [h1]; omega
  | ⟨2, _⟩ => show win0_1.index t 2 * 768 + 1 * j.val = j.val; rw [h2]; omega

variable (V : (c : Dev nD) → (b : Ref sig .tc) → Buf (Elt Ideal) ((c : Thread nD τ).loc b))

theorem bias_flushed (c : Dev nD) (t : Fin cfg0.N) :
    (dat0 V c).flushed 1 t = ((cfg0.win 1).blk t).view.read (Elt Ideal) (biasArr (V c main_v19)) := by
  show (cfg0.win 1).cut (grid0.coords t) ((dat0 V c).after 1 t) = _
  rw [after0_1, bias_out]
  funext x
  obtain ⟨z, i, j, rfl⟩ : ∃ (z : Fin 1) (i : Fin 256) (j : Fin 768), x = ix3 z i j := ⟨x 0, x 1, x 2, eq_ix3 x⟩
  obtain rfl : z = 0 := Subsingleton.elim _ _
  refine Eq.trans ?_ (bias_block _ t i j).symm
  exact congrArg (fun f => biasAt f i j) (funext fun m => row_block (V c main_v19) t m)

theorem bias_mem (t : Fin cfg0.N) (y : S16x256x768.Idx) : y ∈ ((cfg0.win 1).blk t).view.set ↔ (y 0 : Nat) = t.val := by
  show y ∈ ((View.whole main_v20).slice (win0_1.rect t)).set ↔ _
  rw [View.set_slice_whole, Rect.mem_set_unit]
  obtain ⟨h0, h1, h2⟩ := index0_1 t
  have hy1 : (y 1 : Nat) < 256 := (y 1).isLt
  have hy2 : (y 2 : Nat) < 768 := (y 2).isLt
  refine ⟨fun h => ?_, fun h a => ?_⟩
  · have a0 : win0_1.index t 0 * 1 ≤ (y 0 : Nat) ∧ (y 0 : Nat) < win0_1.index t 0 * 1 + 1 := h 0
    rw [h0] at a0
    omega
  · match a with
    | ⟨0, _⟩ => show win0_1.index t 0 * 1 ≤ (y 0 : Nat) ∧ (y 0 : Nat) < win0_1.index t 0 * 1 + 1; rw [h0]; omega
    | ⟨1, _⟩ => show win0_1.index t 1 * 256 ≤ (y 1 : Nat) ∧ (y 1 : Nat) < win0_1.index t 1 * 256 + 256; rw [h1]; omega
    | ⟨2, _⟩ => show win0_1.index t 2 * 768 ≤ (y 2 : Nat) ∧ (y 2 : Nat) < win0_1.index t 2 * 768 + 768; rw [h2]; omega

theorem bias_cover (y : S16x256x768.Idx) : ∃ t : Fin cfg0.N, (cfg0.win 1).flush t = true ∧ y ∈ ((cfg0.win 1).blk t).view.set := by
  have h0 : (y 0 : Nat) < 16 := (y 0).isLt
  have ht : (y 0 : Nat) < cfg0.N := by rw [points0]; omega
  exact ⟨⟨_, ht⟩, flush0_1 _, (bias_mem _ y).2 rfl⟩

/-- The bias array after its launch. -/
theorem bias_final (c : Dev nD) : (dat0 V c).arrAt 1 cfg0.N = biasArr (V c main_v19) :=
  Dat.arrAt_eq_of_cover _ 1 _ (fun t _ => bias_flushed V c t) bias_cover

end Cert.KernelIdeal.Attn
-- ==== Proof.Words.lean ====
module

public import Idealize.ShloMosaic.Lib.Pointwise
public import Idealize.ShloMosaic.Lib.Tactic.WordOmega

@[expose] public section

set_option maxRecDepth 16384

namespace Cert.Words

open Idealize.ShloMosaic

theorem toInt_small (n : Nat) (hn : n < 2 ^ 31) : (BitVec.ofNat 32 n).toInt = n := by
  rw [BitVec.toInt_eq_toNat_of_lt] <;> rw [BitVec.toNat_ofNat] <;> omega

theorem mul64 (c : Fin 32) : IntOp.muli (BitVec.ofNat 32 c.val) 64#32 = BitVec.ofNat 32 (64 * c.val) := by
  revert c; decide +kernel

/-- A distance clipped to ±128 and moved to the table's columns, from the distance plus 256. -/
theorem clip_word (n : Fin 1024) :
    IntOp.addi (IntOp.minsi 128#32 (IntOp.maxsi 4294967168#32 (IntOp.subi (BitVec.ofNat 32 n.val) 256#32))) 128#32
      = BitVec.ofNat 32 (min 256 (n.val - 128)) := by
  revert n; decide +kernel

/-- Whether row `n` of the padded tokens is a token. -/
theorem past_word (n : Fin 2560) : IntOp.cmpi .sge (IntOp.subi (BitVec.ofNat 32 n.val) 512#32) 0#32 = if 512 ≤ n.val then 1#1 else 0#1 := by
  revert n; decide +kernel

end Cert.Words
-- ==== Proof.HostRead.lean ====
module

public import proofs.«01_k».proof.Proof.Host
public import proofs.«01_k».proof.Proof.Bias
public import proofs.«01_k».proof.Proof.Words

@[expose] public section

set_option maxRecDepth 16384

noncomputable section

namespace Cert.KernelIdeal.Attn

open Idealize.ShloMosaic Idealize.ShloMosaic.TcCoe Idealize.SL.Sem
open Cert.KernelIdeal Cert.KernelIdeal.Gen Cert.Words

theorem queries_apply (q : FVec Ideal S16x2048x16x64 .f32) (b : Fin 16) (r : Fin 2048) (l : Fin 1024) :
    queries q (ix3 b r l) = q (ix4 b r ⟨l.val / 64, by omega⟩ ⟨l.val % 64, by omega⟩) * ((1 / 8 : ℝ) : EReal) := by
  pointwise [queries]
  rw [ofBits_eighth]

theorem byToken_apply (k : FVec Ideal S16x2048x16x64 .f32) (b : Fin 16) (r : Fin 2048) (l : Fin 1024) :
    byToken k (ix3 b r l) = k (ix4 b r ⟨l.val / 64, by omega⟩ ⟨l.val % 64, by omega⟩) := by
  pointwise [byToken]

theorem diagCol_apply (t : Fin 1023) : diagCol (ix1 t) = BitVec.ofNat 32 (min 256 (895 - t.val)) := by
  pointwise [diagCol, diagClip, diagDist]
  revert t; decide +kernel

theorem diagIdx_apply (t : Fin 1023) : diagIdx (ix2 t 0) = BitVec.ofNat 32 (min 256 (895 - t.val)) := by
  pointwise [diagIdx, diagCol_apply]
  revert t; decide +kernel

/-- The diagonals' gather. -/
abbrev diagDims := gather_S16x257_S1023x1_S16x1023_0_1_n_n_1_1_161

theorem gather_diags (x : FVec Ideal S16x257 .f32) (ix : IVec S1023x1 32) (h : Fin 16) (t : Fin 1023) :
    Host.gather diagDims x ix (ix2 h t) = x (ix2 h ⟨min (ix (ix2 t 0)).toInt.toNat 256, by omega⟩) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    show diagDims.start (ix2 h t) ix 0 + diagDims.offCoord (ix2 h t) 0 = _
    unfold GatherDims.start GatherDims.offCoord
    rw [dif_neg (by decide), dif_pos (by decide), Nat.zero_add]
    rfl
  | ⟨1, _⟩ =>
    show diagDims.start (ix2 h t) ix 1 + diagDims.offCoord (ix2 h t) 1 = _
    unfold GatherDims.start GatherDims.offCoord
    rw [dif_pos (by decide), dif_neg (by decide), Nat.add_zero]
    have hsi : diagDims.siIdx (ix2 h t) ⟨0, by decide⟩ = ix2 t 0 := by
      funext e
      refine Fin.ext ?_
      match e with
      | ⟨0, _⟩ => rfl
      | ⟨1, _⟩ => rfl
    exact congrArg (fun e => min (ix e).toInt.toNat 256) hsi

theorem diags_apply (tab : FVec Ideal S16x257 .f32) (h : Fin 16) (t : Fin 1023) :
    diags tab (ix2 h t) = tab (ix2 h ⟨min 256 (895 - t.val), by omega⟩) := by
  unfold diags
  rw [gather_diags]
  refine congrArg (fun e => tab (ix2 h e)) (Fin.ext ?_)
  show min (diagIdx (ix2 t 0)).toInt.toNat 256 = min 256 (895 - t.val)
  rw [diagIdx_apply, toInt_small _ (by omega), Int.toNat_natCast]
  omega

theorem padded_apply (tab : FVec Ideal S16x257 .f32) (h : Fin 16) (t : Fin 1024) (ht : t.val < 1023) :
    padded tab (ix2 h t) = tab (ix2 h ⟨min 256 (895 - t.val), by omega⟩) := by
  pointwise [padded]
  rw [dif_pos ht, diags_apply]

theorem rolled_apply (tab : FVec Ideal S16x257 .f32) (h : Fin 16) (n : Fin 1024) :
    rolled tab (ix2 h n) = padded tab (ix2 h ⟨(n.val + 255) % 1024, by omega⟩) := by
  pointwise [rolled]
  by_cases hn : n.val < 769
  · rw [dif_pos hn]
    exact congrArg (fun e => padded tab (ix2 h e)) (Fin.ext (by dsimp only; omega))
  · rw [dif_neg hn]
    exact congrArg (fun e => padded tab (ix2 h e)) (Fin.ext (by dsimp only; omega))

theorem biasRows_apply (tab : FVec Ideal S16x257 .f32) (h : Fin 16) (n : Fin 1024) :
    biasRows tab (ix3 h 0 n) = rolled tab (ix2 h n) := by
  pointwise [biasRows]

/-- The bias of head `h`, query `i` and key `j` of a tile, from the table. -/
theorem biasArr_apply (tab : FVec Ideal S16x257 .f32) (h : Fin 16) (i : Fin 256) (j : Fin 768) :
    biasArr (biasRows tab) (ix3 h i j)
      = if i.val / 64 ≤ j.val / 64 ∧ j.val / 64 ≤ i.val / 64 + 8 then tab (ix2 h ⟨min 256 (640 + i.val - j.val), by omega⟩) else ⊥ := by
  show biasAt (fun m => biasRows tab (ix3 h 0 m)) i j = _
  unfold biasAt
  by_cases hv : i.val / 64 ≤ j.val / 64 ∧ j.val / 64 ≤ i.val / 64 + 8
  · rw [if_pos hv, if_pos hv]
    dsimp only
    rw [biasRows_apply, rolled_apply, padded_apply _ _ _ (by dsimp only; omega)]
    exact congrArg (fun e => tab (ix2 h e)) (Fin.ext (by dsimp only; omega))
  · rw [if_neg hv, if_neg hv]

end Cert.KernelIdeal.Attn
-- ==== Proof.Score.lean ====
module

public import proofs.«01_k».proof.Proof.Mean

@[expose] public section

noncomputable section

namespace Cert.Attn

open Idealize.ShloMosaic
open Cert.KernelIdeal.Attn

/-- A real number times a finite sum. -/
theorem sum_mul_coe {ι : Type} (s : Finset ι) (f : ι → EReal) (x : EReal) (h0 : 0 ≤ x) (ht : x ≠ ⊤) : (∑ i ∈ s, f i * x) = (∑ i ∈ s, f i) * x := by
  classical
  induction s using Finset.induction_on with
  | empty => simp
  | insert a s ha ih => rw [Finset.sum_insert ha, Finset.sum_insert ha, ih, EReal.right_distrib_of_nonneg_of_ne_top h0 ht]

theorem inv_ne_top (x : EReal) : x⁻¹ ≠ ⊤ := by
  induction x with
  | bot => simp
  | top => simp
  | coe x => rw [← EReal.coe_inv]; exact EReal.coe_ne_top _

theorem exp_nonneg (x : EReal) : 0 ≤ Ideal.exp x := by
  induction x with
  | bot => rw [Ideal.exp_bot]
  | top => rw [Ideal.exp_top]; exact le_top
  | coe x => rw [Ideal.exp_coe]; exact EReal.coe_nonneg.mpr (Real.exp_pos x).le

/-- Dividing every weight by their sum, or dividing the weighted values' sum. -/
theorem mean_of_probs {n : Nat} (s v : Fin n → EReal) (hz : (∑ j, Ideal.exp (s j - Finset.univ.fold max ⊥ s)) ≠ 0) :
    (∑ j, v j * Ideal.div (Ideal.exp (s j - Finset.univ.fold max ⊥ s)) (∑ j, Ideal.exp (s j - Finset.univ.fold max ⊥ s))) = mean s v := by
  unfold mean
  generalize Finset.univ.fold max ⊥ s = M at *
  have h0 : 0 ≤ ∑ j, Ideal.exp (s j - M) := Finset.sum_nonneg fun j _ => exp_nonneg _
  generalize (∑ j, Ideal.exp (s j - M)) = Z at *
  unfold Ideal.div
  simp only [if_neg hz]
  rw [← sum_mul_coe _ _ _ (EReal.inv_nonneg_of_nonneg h0) (inv_ne_top Z)]
  refine Finset.sum_congr rfl fun j _ => ?_
  rw [← mul_assoc, mul_comm (v j)]

/-- The weights' sum is not zero where each score is a real or −∞ and one is a real. -/
theorem weights_ne_zero {n : Nat} (s : Fin n → EReal) (hs : ∀ j, s j = ⊥ ∨ ∃ x : ℝ, s j = x) (j0 : Fin n) (h0 : ∃ x : ℝ, s j0 = x) :
    (∑ j, Ideal.exp (s j - Finset.univ.fold max ⊥ s)) ≠ 0 := by
  have hsup : Finset.univ.fold max ⊥ s = Finset.univ.sup s := rfl
  obtain ⟨j, -, hj⟩ := Finset.exists_mem_eq_sup Finset.univ ⟨j0, Finset.mem_univ _⟩ s
  have hle : s j0 ≤ s j := hj ▸ Finset.le_sup (Finset.mem_univ j0)
  obtain ⟨x0, hx0⟩ := h0
  obtain ⟨x, hx⟩ : ∃ x : ℝ, s j = x := by
    rcases hs j with h | h
    · rw [h, hx0] at hle
      exact absurd (le_bot_iff.mp hle) (EReal.coe_ne_bot _)
    · exact h
  have h1 : Ideal.exp (s j - Finset.univ.fold max ⊥ s) = 1 := by
    rw [hsup, hj, hx, ← EReal.coe_sub, sub_self, Ideal.exp_coe, Real.exp_zero]
    rfl
  have h2 : Ideal.exp (s j - Finset.univ.fold max ⊥ s) ≤ ∑ j, Ideal.exp (s j - Finset.univ.fold max ⊥ s) :=
    Finset.single_le_sum (f := fun j => Ideal.exp (s j - Finset.univ.fold max ⊥ s)) (fun j _ => exp_nonneg _) (Finset.mem_univ j)
  rw [h1] at h2
  intro he
  rw [he] at h2
  exact absurd h2 (not_le.mpr zero_lt_one)

/-- Queries, keys or values: sequence, token, head, lane. -/
abbrev Rows := (⟨4, ![16, 2048, 16, 64]⟩ : Shape).Idx → EReal
/-- The table of relative distances: head, clipped distance. -/
abbrev Table := (⟨2, ![16, 257]⟩ : Shape).Idx → EReal

/-- The score of query `r` against token `t`: the scaled product and the bias of their distance where the token's chunk is
    one of the query's nine, −∞ elsewhere. -/
def bandScore (q k : Rows) (tab : Table) (b : Fin 16) (r : Fin 2048) (h : Fin 16) (t : Fin 2048) : EReal :=
  if r.val / 64 ≤ t.val / 64 + 8 ∧ t.val / 64 ≤ r.val / 64 then
    (∑ d : Fin 64, q (ix4 b r h d) * k (ix4 b t h d)) * ((1 / 8 : ℝ) : EReal) + tab (ix2 h ⟨min 256 (128 + r.val - t.val), by omega⟩)
  else ⊥

/-- The layer's attention at an index. -/
def attention (q k v : Rows) (tab : Table) (b : Fin 16) (r : Fin 2048) (l : Fin 1024) : EReal :=
  mean (bandScore q k tab b r ⟨l.val / 64, by omega⟩) fun t => v (ix4 b t ⟨l.val / 64, by omega⟩ ⟨l.val % 64, by omega⟩)

/-- Every entry is a real. -/
def AllReal {ι : Type} (x : ι → EReal) : Prop := ∀ i, ∃ a : ℝ, x i = a

theorem mul_real {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

theorem add_real {x y : EReal} (hx : ∃ a : ℝ, x = a) (hy : ∃ a : ℝ, y = a) : ∃ a : ℝ, x + y = a := by
  obtain ⟨a, rfl⟩ := hx
  obtain ⟨b, rfl⟩ := hy
  exact ⟨a + b, (EReal.coe_add a b).symm⟩

theorem sum_real {n : Nat} (f : Fin n → EReal) (hf : ∀ i, ∃ a : ℝ, f i = a) : ∃ a : ℝ, (∑ i, f i) = a :=
  Finset.sum_induction f (fun x => ∃ a : ℝ, x = a) (fun _ _ => add_real) ⟨0, rfl⟩ fun i _ => hf i

theorem score_visible (q k : Rows) (tab : Table) (hq : AllReal q) (hk : AllReal k) (ht : AllReal tab) (b : Fin 16) (r : Fin 2048) (h : Fin 16) (t : Fin 2048)
    (hv : r.val / 64 ≤ t.val / 64 + 8 ∧ t.val / 64 ≤ r.val / 64) : ∃ x : ℝ, bandScore q k tab b r h t = x := by
  unfold bandScore
  rw [if_pos hv]
  exact add_real (mul_real (sum_real _ fun d => mul_real (hq _) (hk _)) ⟨_, rfl⟩) (ht _)

theorem score_hidden (q k : Rows) (tab : Table) (b : Fin 16) (r : Fin 2048) (h : Fin 16) (t : Fin 2048)
    (hv : ¬ (r.val / 64 ≤ t.val / 64 + 8 ∧ t.val / 64 ≤ r.val / 64)) : bandScore q k tab b r h t = ⊥ := by
  unfold bandScore
  rw [if_neg hv]

/-- The queries' scale, moved out of the product. -/
theorem scaled_sum {n : Nat} (q k : Fin n → EReal) (x : ℝ) (h0 : 0 ≤ x) : (∑ d, q d * (x : EReal) * k d) = (∑ d, q d * k d) * (x : EReal) := by
  rw [← sum_mul_coe _ _ _ (EReal.coe_nonneg.mpr h0) (EReal.coe_ne_top x)]
  refine Finset.sum_congr rfl fun d _ => ?_
  rw [mul_assoc, mul_comm (x : EReal), ← mul_assoc]

end Cert.Attn
-- ==== Proof.KernelScore.lean ====
module

public import proofs.«01_k».proof.Proof.Array
public import proofs.«01_k».proof.Proof.HostRead
public import proofs.«01_k».proof.Proof.Score

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

variable (q k v : FVec Ideal S16x2048x16x64 .f32) (tab : FVec Ideal S16x257 .f32)

theorem query_lane (b : Fin 16) (r : Fin 2048) (l : Fin 1024) (d : Fin 64) :
    queries q (ix3 b r ⟨64 * (l.val / 64) + d.val, by omega⟩) = q (ix4 b r ⟨l.val / 64, by omega⟩ d) * ((1 / 8 : ℝ) : EReal) := by
  rw [queries_apply]
  refine congrArg (· * ((1 / 8 : ℝ) : EReal)) (congrArg₂ (fun h d => q (ix4 b r h d)) (Fin.ext ?_) (Fin.ext ?_))
  · show (64 * (l.val / 64) + d.val) / 64 = l.val / 64
    omega
  · show (64 * (l.val / 64) + d.val) % 64 = d.val
    omega

theorem key_lane (b : Fin 16) (t : Fin 2048) (l : Fin 1024) (d : Fin 64) :
    byToken k (ix3 b t ⟨64 * (l.val / 64) + d.val, by omega⟩) = k (ix4 b t ⟨l.val / 64, by omega⟩ d) := by
  rw [byToken_apply]
  refine congrArg₂ (fun h d => k (ix4 b t h d)) (Fin.ext ?_) (Fin.ext ?_)
  · show (64 * (l.val / 64) + d.val) / 64 = l.val / 64
    omega
  · show (64 * (l.val / 64) + d.val) % 64 = d.val
    omega

/-- The kernel's scores are the layer's. -/
theorem fullScore_eq (b : Fin 16) (r : Fin 2048) (l : Fin 1024) (t : Fin 2048) :
    fullScore (queries q) (byToken k) (biasArr (biasRows tab)) b r l t = bandScore q k tab b r ⟨l.val / 64, by omega⟩ t := by
  unfold fullScore bandScore
  by_cases hw : 256 * (r.val / 256) ≤ t.val + 512 ∧ t.val < 256 * (r.val / 256) + 256
  · rw [dif_pos hw, biasArr_apply]
    by_cases hv : r.val / 64 ≤ t.val / 64 + 8 ∧ t.val / 64 ≤ r.val / 64
    · rw [if_pos hv, if_pos (by dsimp only; omega)]
      refine congrArg₂ (· + ·) ?_ (congrArg (fun e => tab (ix2 _ e)) (Fin.ext (by dsimp only; omega)))
      refine Eq.trans ?_ (scaled_sum (fun d => q (ix4 b r ⟨l.val / 64, by omega⟩ d)) (fun d => k (ix4 b t ⟨l.val / 64, by omega⟩ d)) (1 / 8) (by norm_num))
      exact Finset.sum_congr rfl fun d _ => congrArg₂ (· * ·) (query_lane q b r l d) (key_lane k b t l d)
    · rw [if_neg hv, if_neg (by dsimp only; omega)]
      exact EReal.add_bot _
  · rw [dif_neg hw, if_neg (by omega)]

/-- The kernel's output is the layer's attention. -/
theorem fullOut_eq (b : Fin 16) (r : Fin 2048) (l : Fin 1024) :
    fullOut (queries q) (byToken k) (byToken v) (biasArr (biasRows tab)) (ix3 b r l) = attention q k v tab b r l := by
  show mean _ _ = mean _ _
  exact congrArg₂ mean (funext fun t => fullScore_eq q k tab b r l t) (funext fun t => byToken_apply v b t l)

end Cert.KernelIdeal.Attn
-- ==== Proof.Run.lean ====
module

public import proofs.«01_k».proof.Proof.KernelScore

@[expose] public section

set_option maxRecDepth 16384

noncomputable section

namespace Cert.KernelIdeal.Attn

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen Cert.Attn

variable (m : (ℓ : Loc nD τ sig) → Buf (Elt Ideal) ℓ) (ρ : Dev nD → PrngReg)

/-- What the attention's buffer holds at the end. -/
theorem result_eq (c : Dev nD) : W9 m ρ c (Proc.devRef .tc main_v25)
    = fullOut (queries (m ((c : Thread nD τ).loc main_arg0))) (byToken (m ((c : Thread nD τ).loc main_arg1))) (byToken (m ((c : Thread nD τ).loc main_arg2)))
        (biasArr (biasRows (m ((c : Thread nD τ).loc main_arg3)))) := by
  refine (W9_arr m ρ c 4).trans ((attn_final (V8 m ρ) c).trans ?_)
  show fullOut (W8 m ρ c (Proc.devRef .tc main_v3)) (W8 m ρ c (Proc.devRef .tc main_v22)) (W8 m ρ c (Proc.devRef .tc main_v24)) (W8 m ρ c (Proc.devRef .tc main_v20)) = _
  rw [host_queries, host_keys, host_values, host_bias, bias_final (V6 m ρ) c]
  show fullOut _ _ _ (biasArr (W6 m ρ c (Proc.devRef .tc main_v19))) = _
  rw [host_rows]

set_option backward.isDefEq.respectTransparency.types false in
/-- The launch ends with every buffer outside the launches' own at its contents after the last of them. -/
theorem launch : θ_run defs (onTc (τ := τ) (main (F := Ideal))) ⟨m, fun _ => 0, ρ⟩
    (fun r => ∀ c : Dev nD, ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => h)

/-- The attention ends with its buffer at the layer's attention of the arguments, which are unchanged. -/
theorem run : θ_run defs (onTc (τ := τ) (main (F := Ideal))) ⟨m, fun _ => 0, ρ⟩ (fun r => ∀ c : Dev nD,
      r.2.mem ((c.tc : Thread nD τ).loc main_v25) = (fun y => attention (m ((c : Thread nD τ).loc main_arg0)) (m ((c : Thread nD τ).loc main_arg1))
        (m ((c : Thread nD τ).loc main_arg2)) (m ((c : Thread nD τ).loc main_arg3)) (y 0) (y 1) (y 2) : FVec Ideal S16x2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v25 (by decide))).trans ((result_eq m ρ c).trans (funext fun y => (congrArg _ (eq_ix3 y)).trans (fullOut_eq _ _ _ _ (y 0) (y 1) (y 2)))),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c)⟩) (launch m ρ)

end Cert.KernelIdeal.Attn
-- ==== Proof.RefTerm.lean ====
module

public import proofs.«01_k».proof.Proof.Gen.ReferenceIdeal.Run
public import Idealize.ShloMosaic.Lib.Pointwise
public import Idealize.ShloMosaic.Lib.Tactic.WordOmega

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen

/-- The padded rows of each chunk's window: chunk `c`, place `j` is row `64 c + j`. -/
def rows : IVec S32x576 32 :=
  addi (broadcastInDim S32x576 ![0, 1] bcast_S32x1_S32x576_0_1 (broadcastInDim S32x1 ![0] bcast_S32_S32x1_0 (muli (iotaInDim S32 32 0) (broadcastInDim S32 ![] bcast_S_S32 (constantI S_ 32 64#32)))))
    (broadcastInDim S32x576 ![0, 1] bcast_S1x576_S32x576_0_1 (broadcastInDim S1x576 ![1] bcast_S576_S1x576_1 (iotaInDim S576 32 0)))

/-- Those rows as start indices. -/
def rowIdx : IVec S32x576x1 32 :=
  broadcastInDim S32x576x1 ![0, 1] bcast_S32x576_S32x576x1_0_1
    (select (cmpi .slt rows (broadcastInDim S32x576 ![] bcast_S_S32x576 (constantI S_ 32 0#32)))
      (addi rows (broadcastInDim S32x576 ![] bcast_S_S32x576 (constantI S_ 32 2560#32))) rows)

/-- The windows of the keys or of the values, from the padded rows. -/
def windows (x : FVec Ideal S16x2048x16x64 .f32) : FVec Ideal S16x32x576x16x64 .f32 :=
  Host.gather gather_S16x2560x16x64_S32x576x1_S16x32x576x16x64_034_1_n_n_1_2_1611664
    (pad S16x2560x16x64 ![0, 512, 0, 0] ![0, 0, 0, 0] ![0, 0, 0, 0] x (sitofp .f32 (constantI S_ 32 0#32)) pads_S16x2048x16x64_S16x2560x16x64_000_51200_000_000 h_S_)
    rowIdx

/-- The clipped distance of query `i` of a chunk and place `j` of its window, moved to the table's columns. -/
def dist : IVec S64x576 32 :=
  addi (minsi (broadcastInDim S64x576 ![] bcast_S_S64x576 (id (constantI S_ 32 128#32)))
      (maxsi (broadcastInDim S64x576 ![] bcast_S_S64x576 (id (constantI S_ 32 4294967168#32)))
        (subi (broadcastInDim S64x576 ![0, 1] bcast_S64x1_S64x576_0_1 (broadcastInDim S64x1 ![0] bcast_S64_S64x1_0 (addi (broadcastInDim S64 ![] bcast_S_S64 (constantI S_ 32 512#32)) (iotaInDim S64 32 0))))
          (broadcastInDim S64x576 ![0, 1] bcast_S1x576_S64x576_0_1 (broadcastInDim S1x576 ![1] bcast_S576_S1x576_1 (iotaInDim S576 32 0))))))
    (broadcastInDim S64x576 ![] bcast_S_S64x576 (constantI S_ 32 128#32))

/-- Those columns as start indices. -/
def distIdx : IVec S64x576x1 32 :=
  broadcastInDim S64x576x1 ![0, 1] bcast_S64x576_S64x576x1_0_1
    (select (cmpi .slt dist (broadcastInDim S64x576 ![] bcast_S_S64x576 (constantI S_ 32 0#32)))
      (addi dist (broadcastInDim S64x576 ![] bcast_S_S64x576 (constantI S_ 32 257#32))) dist)

/-- The bias of every head, query and place. -/
def places (tab : FVec Ideal S16x257 .f32) : FVec Ideal S16x64x576 .f32 :=
  Host.gather gather_S16x257_S64x576x1_S16x64x576_0_1_n_n_1_2_161 tab distIdx

/-- The bias with the places before the sequence's start at −∞. -/
def masked (tab : FVec Ideal S16x257 .f32) : FVec Ideal S32x16x64x576 .f32 :=
  select (broadcastInDim S32x16x64x576 ![0, 1, 2, 3] bcast_S32x1x1x576_S32x16x64x576_0_1_2_3 (broadcastInDim S32x1x1x576 ![0, 3] bcast_S32x576_S32x1x1x576_0_3
      (cmpi .sge (subi rows (broadcastInDim S32x576 ![] bcast_S_S32x576 (constantI S_ 32 512#32))) (broadcastInDim S32x576 ![] bcast_S_S32x576 (constantI S_ 32 0#32)))))
    (broadcastInDim S32x16x64x576 ![0, 1, 2, 3] bcast_S1x16x64x576_S32x16x64x576_0_1_2_3 (broadcastInDim S1x16x64x576 ![1, 2, 3] bcast_S16x64x576_S1x16x64x576_1_2_3 (places tab)))
    (broadcastInDim S32x16x64x576 ![] bcast_S_S32x16x64x576 (id (constant S_ .f32 0xFF800000#32)))

/-- The biased scores. -/
def logits (q k : FVec Ideal S16x2048x16x64 .f32) (tab : FVec Ideal S16x257 .f32) : FVec Ideal S16x32x16x64x576 .f32 :=
  addf (mulf (Host.dotGeneral (F := Ideal) dot_S16x32x64x16x64_S16x32x576x16x64_S16x32x16x64x576_4_4_2_2_013_013 none
        (shapeCast _ q shapeCasts_S16x2048x16x64_S16x32x64x16x64) (windows k))
      (broadcastInDim S16x32x16x64x576 ![] bcast_S_S16x32x16x64x576 (constant S_ .f32 0x3E000000#32)))
    (broadcastInDim S16x32x16x64x576 ![0, 1, 2, 3, 4] bcast_S1x32x16x64x576_S16x32x16x64x576_0_1_2_3_4
      (broadcastInDim S1x32x16x64x576 ![1, 2, 3, 4] bcast_S32x16x64x576_S1x32x16x64x576_1_2_3_4 (masked tab)))

/-- The exponentials of the scores less their greatest. -/
def weights (s : FVec Ideal S16x32x16x64x576 .f32) : FVec Ideal S16x32x16x64x576 .f32 :=
  Host.exp (subf s (broadcastInDim S16x32x16x64x576 ![0, 1, 2, 3, 4] bcast_S16x32x16x64x1_S16x32x16x64x576_0_1_2_3_4
    (broadcastInDim S16x32x16x64x1 ![0, 1, 2, 3] bcast_S16x32x16x64_S16x32x16x64x1_0_1_2_3
      (maximumf (broadcastInDim S16x32x16x64 ![] bcast_S_S16x32x16x64 (constant S_ .f32 0xFF800000#32))
        (Host.reduce FloatOps.maximumf s (constant S_ .f32 0xFF800000#32) reducesTo_S16x32x16x64x576_S16x32x16x64_d4 h_S_)))))

/-- The weights over their sum. -/
def probs (p : FVec Ideal S16x32x16x64x576 .f32) : FVec Ideal S16x32x16x64x576 .f32 :=
  Host.divf p (broadcastInDim S16x32x16x64x576 ![0, 1, 2, 3, 4] bcast_S16x32x16x64x1_S16x32x16x64x576_0_1_2_3_4
    (broadcastInDim S16x32x16x64x1 ![0, 1, 2, 3] bcast_S16x32x16x64_S16x32x16x64x1_0_1_2_3
      (Host.reduceAdd p (constant S_ .f32 0x00000000#32) reducesTo_S16x32x16x64x576_S16x32x16x64_d4 h_S_)))

/-- The weighted values, laid out by token. -/
def output (p : FVec Ideal S16x32x16x64x576 .f32) (v : FVec Ideal S16x2048x16x64 .f32) : FVec Ideal S16x2048x1024 .bf16 :=
  truncf .bf16 (shapeCast _ (transpose S16x32x64x16x64 [0, 1, 4, 2, 3]
    (Host.dotGeneral (F := Ideal) dot_S16x32x576x16x64_S16x32x16x64x576_S16x32x16x64x64_2_4_4_3_013_012 none (windows v) p)
    transposes_S16x32x16x64x64_S16x32x64x16x64_0_1_4_2_3) shapeCasts_S16x32x64x16x64_S16x2048x1024) bitsLt_bf16_f32

/-- The reference's result, by these steps. -/
theorem res_eq (m : (ℓ : Loc nD τ sig) → Buf (Elt Ideal) ℓ) (c : Dev nD) :
    Cert.ReferenceIdeal.Value.res_main_v72 m c = output (probs (weights (logits (m ((c.tc : Thread nD τ).loc main_arg0)) (m ((c.tc : Thread nD τ).loc main_arg1))
      (m ((c.tc : Thread nD τ).loc main_arg3))))) (m ((c.tc : Thread nD τ).loc main_arg2)) := rfl

end Cert.ReferenceIdeal.Attn
-- ==== Proof.RefRead.lean ====
module

public import proofs.«01_k».proof.Proof.RefTerm
public import proofs.«01_k».proof.Proof.Words

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Words

theorem rows_apply (c : Fin 32) (j : Fin 576) : rows (ix2 c j) = BitVec.ofNat 32 (64 * c.val + j.val) := by
  pointwise [rows, mul64]
  word_omega

theorem rowIdx_apply (c : Fin 32) (j : Fin 576) : rowIdx (ix3 c j 0) = BitVec.ofNat 32 (64 * c.val + j.val) := by
  pointwise [rowIdx, rows_apply]
  word_omega

theorem dist_apply (i : Fin 64) (j : Fin 576) : dist (ix2 i j) = BitVec.ofNat 32 (min 256 (640 + i.val - j.val)) := by
  pointwise [dist]
  have e : IntOp.subi (IntOp.addi 512#32 (BitVec.ofNat 32 i.val)) (BitVec.ofNat 32 j.val)
      = IntOp.subi (BitVec.ofNat 32 (768 + i.val - j.val)) 256#32 := by
    apply BitVec.eq_of_toNat_eq
    simp only [IntOp.subi, IntOp.addi, BitVec.toNat_sub, BitVec.toNat_add, BitVec.toNat_ofNat]
    omega
  rw [e]
  refine (clip_word ⟨768 + i.val - j.val, by omega⟩).trans ?_
  congr 1
  dsimp only
  omega

theorem distIdx_apply (i : Fin 64) (j : Fin 576) : distIdx (ix3 i j 0) = BitVec.ofNat 32 (min 256 (640 + i.val - j.val)) := by
  pointwise [distIdx, dist_apply]
  word_omega

end Cert.ReferenceIdeal.Attn
-- ==== Proof.RefWin.lean ====
module

public import proofs.«01_k».proof.Proof.RefRead
public import proofs.«01_k».proof.Proof.Words

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Words

/-- The windows' gather. -/
abbrev winDims := gather_S16x2560x16x64_S32x576x1_S16x32x576x16x64_034_1_n_n_1_2_1611664
/-- The bias table's gather. -/
abbrev tabDims := gather_S16x257_S64x576x1_S16x64x576_0_1_n_n_1_2_161

/-- A gather of the padded rows, at an index. -/
theorem gather_windows (x : FVec Ideal S16x2560x16x64 .f32) (ix : IVec S32x576x1 32) (b : Fin 16) (c : Fin 32) (j : Fin 576) (h : Fin 16) (d : Fin 64) :
    Host.gather winDims x ix (ix5 b c j h d)
      = x (ix4 b ⟨min (ix (ix3 c j 0)).toInt.toNat 2559, by omega⟩ h d) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    show winDims.start (ix5 b c j h d) ix 0 + winDims.offCoord (ix5 b c j h d) 0 = _
    unfold GatherDims.start GatherDims.offCoord
    rw [dif_neg (by decide), dif_pos (by decide), Nat.zero_add]
    rfl
  | ⟨1, _⟩ =>
    show winDims.start (ix5 b c j h d) ix 1 + winDims.offCoord (ix5 b c j h d) 1 = _
    unfold GatherDims.start GatherDims.offCoord
    rw [dif_pos (by decide), dif_neg (by decide), Nat.add_zero]
    have hsi : GatherDims.siIdx winDims (ix5 b c j h d) ⟨0, by decide⟩ = ix3 c j 0 := by
      funext e
      refine Fin.ext ?_
      match e with
      | ⟨0, _⟩ => rfl
      | ⟨1, _⟩ => rfl
      | ⟨2, _⟩ => rfl
    exact congrArg (fun e => min (ix e).toInt.toNat 2559) hsi
  | ⟨2, _⟩ =>
    show winDims.start (ix5 b c j h d) ix 2 + winDims.offCoord (ix5 b c j h d) 2 = _
    unfold GatherDims.start GatherDims.offCoord
    rw [dif_neg (by decide), dif_pos (by decide), Nat.zero_add]
    rfl
  | ⟨3, _⟩ =>
    show winDims.start (ix5 b c j h d) ix 3 + winDims.offCoord (ix5 b c j h d) 3 = _
    unfold GatherDims.start GatherDims.offCoord
    rw [dif_neg (by decide), dif_pos (by decide), Nat.zero_add]
    rfl

/-- A gather of the table's columns, at an index. -/
theorem gather_places (x : FVec Ideal S16x257 .f32) (ix : IVec S64x576x1 32) (h : Fin 16) (i : Fin 64) (j : Fin 576) :
    Host.gather tabDims x ix (ix3 h i j) = x (ix2 h ⟨min (ix (ix3 i j 0)).toInt.toNat 256, by omega⟩) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    show tabDims.start (ix3 h i j) ix 0 + tabDims.offCoord (ix3 h i j) 0 = _
    unfold GatherDims.start GatherDims.offCoord
    rw [dif_neg (by decide), dif_pos (by decide), Nat.zero_add]
    rfl
  | ⟨1, _⟩ =>
    show tabDims.start (ix3 h i j) ix 1 + tabDims.offCoord (ix3 h i j) 1 = _
    unfold GatherDims.start GatherDims.offCoord
    rw [dif_pos (by decide), dif_neg (by decide), Nat.add_zero]
    have hsi : tabDims.siIdx (ix3 h i j) ⟨0, by decide⟩ = ix3 i j 0 := by
      funext e
      refine Fin.ext ?_
      match e with
      | ⟨0, _⟩ => rfl
      | ⟨1, _⟩ => rfl
      | ⟨2, _⟩ => rfl
    exact congrArg (fun e => min (ix e).toInt.toNat 256) hsi

theorem places_apply (tab : FVec Ideal S16x257 .f32) (h : Fin 16) (i : Fin 64) (j : Fin 576) :
    places tab (ix3 h i j) = tab (ix2 h ⟨min 256 (640 + i.val - j.val), by omega⟩) := by
  unfold places
  rw [gather_places]
  refine congrArg (fun e => tab (ix2 h e)) (Fin.ext ?_)
  show min (distIdx (ix3 i j 0)).toInt.toNat 256 = min 256 (640 + i.val - j.val)
  rw [distIdx_apply, toInt_small _ (by omega), Int.toNat_natCast]
  omega

/-- Chunk `c`'s window holds at place `j` the row of token `64 c + j − 512`, a zero row before the first token. -/
theorem windows_apply (x : FVec Ideal S16x2048x16x64 .f32) (b : Fin 16) (c : Fin 32) (j : Fin 576) (h : Fin 16) (d : Fin 64) :
    windows x (ix5 b c j h d) = if h0 : 512 ≤ 64 * c.val + j.val then x (ix4 b ⟨64 * c.val + j.val - 512, by omega⟩ h d) else 0 := by
  unfold windows
  rw [gather_windows]
  have e : (⟨min (rowIdx (ix3 c j 0)).toInt.toNat 2559, by omega⟩ : Fin 2560) = ⟨64 * c.val + j.val, by omega⟩ := by
    refine Fin.ext ?_
    show min (rowIdx (ix3 c j 0)).toInt.toNat 2559 = 64 * c.val + j.val
    rw [rowIdx_apply, toInt_small _ (by omega), Int.toNat_natCast]
    omega
  rw [e]
  pointwise
  by_cases h0 : 512 ≤ 64 * c.val + j.val
  · rw [dif_pos ⟨h0, by omega⟩, dif_pos h0]
  · rw [dif_neg (fun h => h0 h.1), dif_neg h0]
    show ((Int.cast (BitVec.toInt 0#32) : ℝ) : EReal) = 0
    simp

end Cert.ReferenceIdeal.Attn
-- ==== Proof.RefLogit.lean ====
module

public import proofs.«01_k».proof.Proof.RefWin
public import proofs.«01_k».proof.Proof.Consts

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Words Cert.KernelIdeal.Attn

theorem masked_apply (tab : FVec Ideal S16x257 .f32) (c : Fin 32) (h : Fin 16) (i : Fin 64) (j : Fin 576) :
    masked tab (ix4 c h i j) = if 512 ≤ 64 * c.val + j.val then tab (ix2 h ⟨min 256 (640 + i.val - j.val), by omega⟩) else ⊥ := by
  pointwise [masked, places_apply, rows_apply]
  rw [past_word ⟨64 * c.val + j.val, by omega⟩]
  by_cases h0 : 512 ≤ 64 * c.val + j.val
  · rw [if_pos h0, if_pos h0]
    rfl
  · rw [if_neg h0, if_neg h0]
    exact ofBits_neg_inf

theorem logits_apply (q k : FVec Ideal S16x2048x16x64 .f32) (tab : FVec Ideal S16x257 .f32) (b : Fin 16) (c : Fin 32) (h : Fin 16) (i : Fin 64) (j : Fin 576) :
    logits q k tab (ix5 b c h i j) = (∑ d : Fin 64, q (ix4 b ⟨64 * c.val + i.val, by omega⟩ h d) * windows k (ix5 b c j h d)) * ((1 / 8 : ℝ) : EReal)
      + masked tab (ix4 c h i j) := by
  pointwise [logits]
  rw [ofBits_eighth]
  have e : ∀ x : Fin 64, q (ix4 b ⟨c.val * 64 + i.val, by omega⟩ h x) = q (ix4 b ⟨64 * c.val + i.val, by omega⟩ h x) :=
    fun x => congrArg (fun r => q (ix4 b r h x)) (Fin.ext (by show c.val * 64 + i.val = 64 * c.val + i.val; omega))
  rw [Finset.sum_congr rfl fun x _ => by rw [e x]]

end Cert.ReferenceIdeal.Attn
-- ==== Proof.RefSoft.lean ====
module

public import proofs.«01_k».proof.Proof.RefTerm
public import proofs.«01_k».proof.Proof.Consts

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.KernelIdeal.Attn

/-- The greatest entry of each row along the last of five axes. -/
theorem reduce_max_last {n0 n1 n2 n3 n4 : Nat} {u : Shape} (x : (⟨5, ![n0, n1, n2, n3, n4]⟩ : Shape).Idx → Ideal .f32) (init : u.Idx → Ideal .f32)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce FloatOps.maximumf x init h hu (ix4 a b c d) = Finset.univ.fold max (init (Shape.Idx.first hu)) fun k : Fin n4 => x (ix5 a b c d k) := by
  pointwise

theorem weights_of_max (s : FVec Ideal S16x32x16x64x576 .f32) (b : Fin 16) (c : Fin 32) (h : Fin 16) (i : Fin 64) (j : Fin 576) (M : FVec Ideal S16x32x16x64 .f32) :
    Host.exp (subf s (broadcastInDim S16x32x16x64x576 ![0, 1, 2, 3, 4] bcast_S16x32x16x64x1_S16x32x16x64x576_0_1_2_3_4
      (broadcastInDim S16x32x16x64x1 ![0, 1, 2, 3] bcast_S16x32x16x64_S16x32x16x64x1_0_1_2_3
        (maximumf (broadcastInDim S16x32x16x64 ![] bcast_S_S16x32x16x64 (constant S_ .f32 0xFF800000#32)) M)))) (ix5 b c h i j)
      = Ideal.exp (s (ix5 b c h i j) - M (ix4 b c h i)) := by
  pointwise
  rw [ofBits_neg_inf, max_eq_right bot_le]

theorem greatest_apply (s : FVec Ideal S16x32x16x64x576 .f32) (b : Fin 16) (c : Fin 32) (h : Fin 16) (i : Fin 64) :
    Host.reduce FloatOps.maximumf s (constant S_ .f32 0xFF800000#32) reducesTo_S16x32x16x64x576_S16x32x16x64_d4 h_S_ (ix4 b c h i)
      = Finset.univ.fold max (constant (F := Ideal) S_ .f32 0xFF800000#32 (Shape.Idx.first h_S_)) fun j => s (ix5 b c h i j) :=
  reduce_max_last s _ _ _ b c h i

theorem fold_neg_inf (f : Fin 576 → EReal) :
    Finset.univ.fold max (constant (F := Ideal) S_ .f32 0xFF800000#32 (Shape.Idx.first h_S_)) f = Finset.univ.fold max ⊥ f :=
  congrArg (fun z => Finset.univ.fold max z f) ofBits_neg_inf

theorem weights_apply (s : FVec Ideal S16x32x16x64x576 .f32) (b : Fin 16) (c : Fin 32) (h : Fin 16) (i : Fin 64) (j : Fin 576) :
    weights s (ix5 b c h i j) = Ideal.exp (s (ix5 b c h i j) - Finset.univ.fold max ⊥ fun j => s (ix5 b c h i j)) :=
  (weights_of_max s b c h i j _).trans
    (congrArg (fun M => Ideal.exp (s (ix5 b c h i j) - M)) ((greatest_apply s b c h i).trans (fold_neg_inf _)))

theorem probs_apply (p : FVec Ideal S16x32x16x64x576 .f32) (b : Fin 16) (c : Fin 32) (h : Fin 16) (i : Fin 64) (j : Fin 576) :
    probs p (ix5 b c h i j) = Ideal.div (p (ix5 b c h i j)) (∑ j, p (ix5 b c h i j)) := by
  pointwise [probs]

theorem output_apply (p : FVec Ideal S16x32x16x64x576 .f32) (v : FVec Ideal S16x2048x16x64 .f32) (b : Fin 16) (r : Fin 2048) (l : Fin 1024) :
    output p v (ix3 b r l) = ∑ j : Fin 576, windows v (ix5 b ⟨r.val / 64, by omega⟩ j ⟨l.val / 64, by omega⟩ ⟨l.val % 64, by omega⟩)
      * p (ix5 b ⟨r.val / 64, by omega⟩ ⟨l.val / 64, by omega⟩ ⟨r.val % 64, by omega⟩ j) := by
  pointwise [output]

end Cert.ReferenceIdeal.Attn
-- ==== Proof.RefScore.lean ====
module

public import proofs.«01_k».proof.Proof.RefLogit
public import proofs.«01_k».proof.Proof.RefSoft
public import proofs.«01_k».proof.Proof.Score

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Attn Cert.KernelIdeal.Attn

variable (q k v : FVec Ideal S16x2048x16x64 .f32) (tab : FVec Ideal S16x257 .f32)

/-- A query's scores over the tokens with the 512 places before the first token in front. -/
def longScore (b : Fin 16) (r : Fin 2048) (h : Fin 16) (n : Fin 2560) : EReal :=
  if h0 : 512 ≤ n.val then bandScore q k tab b r h ⟨n.val - 512, by omega⟩ else ⊥

/-- A column of the values with the 512 places before the first token in front. -/
def longValue (b : Fin 16) (h : Fin 16) (d : Fin 64) (n : Fin 2560) : EReal :=
  if h0 : 512 ≤ n.val then v (ix4 b ⟨n.val - 512, by omega⟩ h d) else 0

theorem logits_eq (b : Fin 16) (r : Fin 2048) (h : Fin 16) (j : Fin 576) :
    logits q k tab (ix5 b ⟨r.val / 64, by omega⟩ h ⟨r.val % 64, by omega⟩ j) = longScore q k tab b r h ⟨64 * (r.val / 64) + j.val, by omega⟩ := by
  rw [logits_apply, masked_apply]
  unfold longScore
  dsimp only
  by_cases h0 : 512 ≤ 64 * (r.val / 64) + j.val
  · rw [if_pos h0, dif_pos h0]
    unfold bandScore
    rw [if_pos (by dsimp only; omega)]
    have hr : (⟨64 * (r.val / 64) + r.val % 64, by omega⟩ : Fin 2048) = r := Fin.ext (by dsimp only; omega)
    rw [hr]
    refine congrArg₂ (· + ·) (congrArg (· * ((1 / 8 : ℝ) : EReal)) (Finset.sum_congr rfl fun d _ => ?_)) (congrArg (fun e => tab (ix2 h e)) (Fin.ext (by dsimp only; omega)))
    rw [windows_apply]
    dsimp only
    rw [dif_pos h0]
  · rw [if_neg h0, dif_neg h0]
    exact EReal.add_bot _

/-- The window's mean is the mean over every token. -/
theorem window_mean (b : Fin 16) (r : Fin 2048) (h : Fin 16) (d : Fin 64) :
    mean (fun j : Fin 576 => longScore q k tab b r h ⟨64 * (r.val / 64) + j.val, by omega⟩) (fun j => longValue v b h d ⟨64 * (r.val / 64) + j.val, by omega⟩)
      = mean (bandScore q k tab b r h) (fun t => v (ix4 b t h d)) := by
  rw [mean_window (64 * (r.val / 64)) (by omega) (longScore q k tab b r h) (longValue v b h d)]
  · rw [← mean_window (n := 2048) 512 (by omega) (longScore q k tab b r h) (longValue v b h d)]
    · refine congrArg₂ mean (funext fun t => ?_) (funext fun t => ?_)
      · unfold longScore
        rw [dif_pos (by dsimp only; omega)]
        exact congrArg (bandScore q k tab b r h) (Fin.ext (by dsimp only; omega))
      · unfold longValue
        rw [dif_pos (by dsimp only; omega)]
        exact congrArg (fun t => v (ix4 b t h d)) (Fin.ext (by dsimp only; omega))
    · intro n hn
      unfold longScore
      rw [dif_neg (by omega)]
  · intro n hn
    unfold longScore
    by_cases h0 : 512 ≤ n.val
    · rw [dif_pos h0]
      exact score_hidden q k tab b r h _ (by dsimp only; omega)
    · rw [dif_neg h0]

/-- The reference's output is the layer's attention. -/
theorem output_eq (hq : AllReal q) (hk : AllReal k) (ht : AllReal tab) (b : Fin 16) (r : Fin 2048) (l : Fin 1024) :
    output (probs (weights (logits q k tab))) v (ix3 b r l) = attention q k v tab b r l := by
  rw [output_apply]
  unfold attention
  rw [← window_mean]
  have hs : (fun j : Fin 576 => logits q k tab (ix5 b ⟨r.val / 64, by omega⟩ ⟨l.val / 64, by omega⟩ ⟨r.val % 64, by omega⟩ j))
      = fun j => longScore q k tab b r ⟨l.val / 64, by omega⟩ ⟨64 * (r.val / 64) + j.val, by omega⟩ := funext fun j => logits_eq q k tab b r _ j
  have hz : (∑ j, Ideal.exp ((fun j : Fin 576 => longScore q k tab b r ⟨l.val / 64, by omega⟩ ⟨64 * (r.val / 64) + j.val, by omega⟩) j
      - Finset.univ.fold max ⊥ (fun j : Fin 576 => longScore q k tab b r ⟨l.val / 64, by omega⟩ ⟨64 * (r.val / 64) + j.val, by omega⟩))) ≠ 0 := by
    refine weights_ne_zero _ (fun j => ?_) ⟨512 + r.val % 64, by omega⟩ ?_
    · unfold longScore
      by_cases h0 : 512 ≤ 64 * (r.val / 64) + j.val
      · rw [dif_pos h0]
        exact Or.inr (score_visible q k tab hq hk ht b r _ _ (by dsimp only; omega))
      · rw [dif_neg h0]
        exact Or.inl rfl
    · unfold longScore
      rw [dif_pos (by dsimp only; omega)]
      exact score_visible q k tab hq hk ht b r _ _ (by dsimp only; omega)
  rw [← mean_of_probs _ _ hz]
  refine Finset.sum_congr rfl fun j _ => congrArg₂ (· * ·) ?_ ?_
  · rw [windows_apply]
    rfl
  · rw [probs_apply]
    simp only [weights_apply]
    exact congrArg (fun s : Fin 576 → EReal => Ideal.div (Ideal.exp (s j - Finset.univ.fold max ⊥ s)) (∑ j, Ideal.exp (s j - Finset.univ.fold max ⊥ s))) hs

end Cert.ReferenceIdeal.Attn
-- ==== Proof.Finite.lean ====
module

public import proofs.«01_k».proof.Defs
public import proofs.«01_k».proof.Proof.Score
public import Idealize.ShloMosaic.Lib.ReduceAll

@[expose] public section

noncomputable section

namespace Cert.Attn

open Idealize.ShloMosaic Cert.KernelIdeal.Attn

/-- Two bits whose conjunction is 1 are both 1. -/
theorem andi_eq_one {a b : BitVec 1} (h : IntOp.andi a b = 1#1) : a = 1#1 ∧ b = 1#1 := by
  revert a b; decide

/-- A number whose magnitude is below +∞ is a real. -/
theorem real_of_abs_lt {S : Shape} (x : FVec Ideal S .f32) (i : S.Idx)
    (h : cmpf .olt (Host.absf x) (fun _ => Ideal.ofBits .f32 0x7F800000#32) i = 1#1) : ∃ a : ℝ, x i = a := by
  have h' : Ideal.cmp .olt (max (x i) (-(x i))) (Ideal.ofBits .f32 0x7F800000#32) = 1#1 := h
  rw [show Ideal.ofBits .f32 0x7F800000#32 = (⊤ : EReal) from ofBits_inf] at h'
  have hx : max (x i : EReal) (-(x i)) < ⊤ := by
    by_contra hn
    simp [Ideal.cmp, hn] at h'
  exact ⟨(x i : EReal).toReal, (EReal.coe_toReal (fun e => by simp [e] at hx) (fun e => by simp [e] at hx)).symm⟩

variable [Cert.Pre_finite_scores.Facts]

/-- What the precondition says of the arguments it reads. -/
theorem finite_of_pre (q k v : Rows) (tab : Table) (h : Cert.Pre_finite_scores.fn (F := Ideal) q k v tab = fun _ => 1#1) :
    AllReal q ∧ AllReal k ∧ AllReal tab := by
  unfold Cert.Pre_finite_scores.fn at h
  dsimp only at h
  obtain ⟨h, ht⟩ := andi_eq_one (congrFun h (fun i => i.elim0))
  obtain ⟨hq, hk⟩ := andi_eq_one h
  exact ⟨fun i => real_of_abs_lt q i (Host.reduce_andi_all _ _ _ _ _ hq i), fun i => real_of_abs_lt k i (Host.reduce_andi_all _ _ _ _ _ hk i),
    fun i => real_of_abs_lt tab i (Host.reduce_andi_all _ _ _ _ _ ht i)⟩

end Cert.Attn
-- ==== Proof.FfnConv.lean ====
module

public import proofs.«01_k».proof.Proof.Gen.FfnIdeal.Skeleton
public import Idealize.ShloMosaic.Lib.Pointwise

/-!
The causal convolution of a block of 256 rows, as the kernel makes it of a rotation in slabs of eight rows, and its reading.
-/

@[expose] public section

set_option maxRecDepth 16384

noncomputable section

namespace Cert.FfnIdeal.Block

open Idealize.ShloMosaic Idealize.ShloMosaic.TcCoe Idealize.SL.Sem
open Cert.FfnIdeal Cert.FfnIdeal.Gen

/-- The rows of each slab of eight turned by `k`. -/
def roll (k : BitVec 32) (u : FVec Ideal S256x1024 .f32) : FVec Ideal S256x1024 .f32 :=
  shapeCast S256x1024 (dynamicRotate 1 k none (shapeCast S32x8x1024 u shapeCasts_S256x1024_S32x8x1024) rotates_S32x8x1024_d1)
    shapeCasts_S32x8x1024_S256x1024

/-- The rows moved down by `k`, the first ones from the rows carried in `h`. -/
def moved (k : BitVec 32) (u : FVec Ideal S256x1024 .f32) (h : FVec Ideal S1x1x8x1024 .f32) : FVec Ideal S256x1024 .f32 :=
  select (cmpi .slt k0_pay7 (broadcast S256x1024 k))
    (concatenate S256x1024 0 [⟨S8x1024, shapeCast S8x1024 h shapeCasts_S1x1x8x1024_S8x1024⟩,
      ⟨S248x1024, extractStridedSlice S248x1024 ![0, 0] (roll k u) slices_S256x1024_o0_0_S248x1024⟩]
      concatenates_S8x1024_S248x1024_S256x1024_d0)
    (roll k u)

/-- The rows the next block reads. -/
def carried (k : BitVec 32) (u : FVec Ideal S256x1024 .f32) : FVec Ideal S1x1x8x1024 .f32 :=
  shapeCast S1x1x8x1024 (extractStridedSlice S8x1024 ![248, 0] (roll k u) slices_S256x1024_o248_0_S8x1024) shapeCasts_S8x1024_S1x1x8x1024

/-- One row for all. -/
def row (w : FVec Ideal S1x1024 .f32) : FVec Ideal S256x1024 .f32 :=
  broadcastTo S256x1024 (shapeCast S1x1024 w shapeCasts_S1x1024_S1x1024) broadcasts_S1x1024_S256x1024

/-- The convolution of three taps. -/
def conv (u : FVec Ideal S256x1024 .f32) (b w2 w1 w0 : FVec Ideal S1x1024 .f32) (h1 h2 : FVec Ideal S1x1x8x1024 .f32) :
    FVec Ideal S256x1024 .f32 :=
  addf (addf (addf (row b) (mulf u (row w2))) (mulf (moved 1#32 u h1) (row w1))) (mulf (moved 2#32 u h2) (row w0))

theorem pay7_lt_one (r : Fin 256) (l : Fin 1024) :
    IntOp.cmpi .slt (k0_pay7 (ix2 r l)) 1#32 = if r.val % 8 < 1 then 1#1 else 0#1 := by
  pointwise [k0_pay7]
  revert r
  decide +kernel

theorem pay7_lt_two (r : Fin 256) (l : Fin 1024) :
    IntOp.cmpi .slt (k0_pay7 (ix2 r l)) 2#32 = if r.val % 8 < 2 then 1#1 else 0#1 := by
  pointwise [k0_pay7]
  revert r
  decide +kernel

/-- A select on a word that says `p`. -/
theorem select_of {α : Type} {p : Prop} [Decidable p] {c : BitVec 1} (h : c = if p then 1#1 else 0#1) (a b : α) :
    Scalar.select c a b = if p then a else b := by
  rw [h]
  split <;> rfl

theorem roll_one (u : FVec Ideal S256x1024 .f32) (r : Fin 256) (l : Fin 1024) :
    roll 1#32 u (ix2 r l) = u (ix2 ⟨r.val / 8 * 8 + (r.val % 8 + 7) % 8, by omega⟩ l) := by
  pointwise [roll]
  rfl

theorem roll_two (u : FVec Ideal S256x1024 .f32) (r : Fin 256) (l : Fin 1024) :
    roll 2#32 u (ix2 r l) = u (ix2 ⟨r.val / 8 * 8 + (r.val % 8 + 6) % 8, by omega⟩ l) := by
  pointwise [roll]
  rfl

theorem moved_one (u : FVec Ideal S256x1024 .f32) (h : FVec Ideal S1x1x8x1024 .f32) (r : Fin 256) (l : Fin 1024) :
    moved 1#32 u h (ix2 r l) = if h1 : r.val < 1 then h (ix4 0 0 ⟨r.val, by omega⟩ l) else u (ix2 ⟨r.val - 1, by omega⟩ l) := by
  pointwise [moved, select_of (pay7_lt_one r l), roll_one]
  repeat' split
  all_goals first | rfl | (exfalso; omega) | (refine congrArg (fun n => u (ix2 n l)) (Fin.ext ?_); dsimp only; omega)

theorem moved_two (u : FVec Ideal S256x1024 .f32) (h : FVec Ideal S1x1x8x1024 .f32) (r : Fin 256) (l : Fin 1024) :
    moved 2#32 u h (ix2 r l) = if h1 : r.val < 2 then h (ix4 0 0 ⟨r.val, by omega⟩ l) else u (ix2 ⟨r.val - 2, by omega⟩ l) := by
  pointwise [moved, select_of (pay7_lt_two r l), roll_two]
  repeat' split
  all_goals first | rfl | (exfalso; omega) | (refine congrArg (fun n => u (ix2 n l)) (Fin.ext ?_); dsimp only; omega)

theorem carried_one (u : FVec Ideal S256x1024 .f32) (r : Fin 8) (l : Fin 1024) :
    carried 1#32 u (ix4 0 0 r l) = u (ix2 ⟨248 + (r.val + 7) % 8, by omega⟩ l) := by
  pointwise [carried, roll_one]
  refine congrArg (fun n => u (ix2 n l)) (Fin.ext ?_)
  dsimp only
  omega

theorem carried_two (u : FVec Ideal S256x1024 .f32) (r : Fin 8) (l : Fin 1024) :
    carried 2#32 u (ix4 0 0 r l) = u (ix2 ⟨248 + (r.val + 6) % 8, by omega⟩ l) := by
  pointwise [carried, roll_two]
  refine congrArg (fun n => u (ix2 n l)) (Fin.ext ?_)
  dsimp only
  omega

theorem conv_apply (u : FVec Ideal S256x1024 .f32) (b w2 w1 w0 : FVec Ideal S1x1024 .f32) (h1 h2 : FVec Ideal S1x1x8x1024 .f32)
    (r : Fin 256) (l : Fin 1024) :
    conv u b w2 w1 w0 h1 h2 (ix2 r l)
      = b (ix2 0 l) + u (ix2 r l) * w2 (ix2 0 l) + moved 1#32 u h1 (ix2 r l) * w1 (ix2 0 l) + moved 2#32 u h2 (ix2 r l) * w0 (ix2 0 l) := by
  pointwise [conv, row]

end Cert.FfnIdeal.Block
-- ==== Proof.FfnTok.lean ====
module

public import proofs.«01_k».proof.Proof.FfnConv

/-!
One token of the merge, the convolutional feed-forward part and the per-layer embedding, over extended reals.
-/

@[expose] public section

set_option maxRecDepth 16384

noncomputable section

namespace Cert.FfnIdeal.Block

open Idealize.ShloMosaic Idealize.ShloMosaic.TcCoe Idealize.SL.Sem

/-- The weights of the layer's part. -/
structure Par where
  bg : Fin 2048 → EReal
  wa : Fin 1024 → Fin 1024 → EReal
  wb : Fin 2048 → Fin 1024 → EReal
  wo : Fin 1024 → Fin 1024 → EReal
  gf : Fin 1024 → EReal
  wu : Fin 1024 → Fin 6144 → EReal
  cw : Fin 3 → Fin 6144 → EReal
  cb : Fin 6144 → EReal
  wd : Fin 3072 → Fin 1024 → EReal
  gp : Fin 1024 → EReal
  wg : Fin 1024 → Fin 1024 → EReal
  wp : Fin 256 → Fin 1024 → EReal

/-- What one token brings. -/
structure Tok where
  x : Fin 1024 → EReal
  ya : Fin 1024 → EReal
  yb : Fin 2048 → EReal
  g : Fin 2048 → EReal
  pe : Fin 256 → EReal

/-- The token after the gated merge of the two mixers. -/
def Par.x1 (P : Par) (T : Tok) (l : Fin 1024) : EReal :=
  T.x l + ∑ d : Fin 1024, (Ideal.logistic (T.g ⟨d.val, by omega⟩ + P.bg ⟨d.val, by omega⟩) * (∑ e, T.ya e * P.wa e d)
    + Ideal.logistic (T.g ⟨1024 + d.val, by omega⟩ + P.bg ⟨1024 + d.val, by omega⟩) * (∑ e, T.yb e * P.wb e d)) * P.wo d l

/-- The root-mean-square norm. -/
def norm (g x : Fin 1024 → EReal) (l : Fin 1024) : EReal :=
  x l * Ideal.rsqrt (Ideal.div (∑ d, x d * x d) (Ideal.ofBits .f32 0x44800000#32) + Ideal.ofBits .f32 0x358637BD#32) * g l

/-- The up projection of the normed token. -/
def Par.up (P : Par) (T : Tok) (c : Fin 6144) : EReal := ∑ d, norm P.gf (P.x1 T) d * P.wu d c

/-- The convolution of the token's projection and those of the two before it. -/
def Par.conv (P : Par) (u0 u1 u2 : Fin 6144 → EReal) (c : Fin 6144) : EReal :=
  P.cb c + u0 c * P.cw 2 c + u1 c * P.cw 1 c + u2 c * P.cw 0 c

/-- The kernel's activation, whose cubic term's factor has the outer one multiplied in. -/
def gk (v : EReal) : EReal :=
  v * (Ideal.ofBits .f32 0x3F800000#32
    + Ideal.tanh (v * (Ideal.ofBits .f32 0x3F4C422A#32 + Named.named (F := Ideal) Cert.FfnIdeal.κ "cube" 0x3D122279#32 * (v * v))))

/-- The activations of the token: the first half of the columns gates the second. -/
def Par.act (P : Par) (u0 u1 u2 : Fin 6144 → EReal) (c : Fin 3072) : EReal :=
  gk (P.conv u0 u1 u2 ⟨c.val, by omega⟩) * P.conv u0 u1 u2 ⟨3072 + c.val, by omega⟩

/-- The token after the down projection of the activations. -/
def Par.x2 (P : Par) (T : Tok) (a : Fin 3072 → EReal) (l : Fin 1024) : EReal := P.x1 T l + ∑ c, a c * P.wd c l

/-- The token after the per-layer embedding. -/
def Par.y (P : Par) (T : Tok) (a : Fin 3072 → EReal) (l : Fin 1024) : EReal :=
  P.x2 T a l + Ideal.logistic (∑ d, norm P.gp (P.x2 T a) d * P.wg d l) * (∑ d, T.pe d * P.wp d l)

end Cert.FfnIdeal.Block
-- ==== Proof.FfnRef.lean ====
module

public import proofs.«01_k».proof.Proof.Gen.FfnReferenceIdeal.Run
public import proofs.«01_k».proof.Proof.FfnTok
public import Idealize.ShloMosaic.Lib.Pointwise

/-!
The reference's part of the layer, read at a token.
-/

@[expose] public section

set_option maxRecDepth 16384

noncomputable section

namespace Cert.FfnReferenceIdeal.Layer

open Idealize.ShloMosaic Idealize.ShloMosaic.TcCoe Idealize.SL.Sem
open Cert.FfnReferenceIdeal Cert.FfnReferenceIdeal.Gen
open Cert.FfnIdeal.Block (Par Tok)

/-- The arguments. -/
structure Args where
  x : FVec Ideal S16x2048x1024 .f32
  ya : FVec Ideal S16x2048x1024 .f32
  yb : FVec Ideal S16x2048x2048 .f32
  g : FVec Ideal S16x2048x2048 .f32
  pe : FVec Ideal S16x2048x256 .f32
  ctx : FVec Ideal S16x2x6144 .f32
  bg : FVec Ideal S2048 .f32
  wa : FVec Ideal S1024x1024 .f32
  wb : FVec Ideal S2048x1024 .f32
  wo : FVec Ideal S1024x1024 .f32
  gf : FVec Ideal S1024 .f32
  wu : FVec Ideal S1024x6144 .f32
  cw : FVec Ideal S3x6144 .f32
  cb : FVec Ideal S6144 .f32
  wd : FVec Ideal S3072x1024 .f32
  gp : FVec Ideal S1024 .f32
  wg : FVec Ideal S1024x1024 .f32
  wp : FVec Ideal S256x1024 .f32

/-- The logistic function as the reference writes it, of the gates. -/
def gate (A : Args) : FVec Ideal S16x2048x2048 .f32 :=
  Host.divf (broadcastInDim S16x2048x2048 ![] bcast_S_S16x2048x2048 (constant S_ .f32 0x3F800000#32))
    (addf (broadcastInDim S16x2048x2048 ![] bcast_S_S16x2048x2048 (constant S_ .f32 0x3F800000#32))
      (Host.exp (Host.negf (addf A.g (broadcastInDim S16x2048x2048 ![0, 1, 2] bcast_S1x1x2048_S16x2048x2048_0_1_2
        (broadcastInDim S1x1x2048 ![2] bcast_S2048_S1x1x2048_2 A.bg))))))

/-- The tokens after the gated merge. -/
def x1 (A : Args) : FVec Ideal S16x2048x1024 .f32 :=
  addf A.x (Host.dotGeneral dot_S16x2048x1024_S1024x1024_S16x2048x1024_2_0_01_1_n_n none
    (addf (mulf (extractStridedSlice S16x2048x1024 ![0, 0, 0] (gate A) slices_S16x2048x2048_S16x2048x1024_0_0_0)
        (Host.dotGeneral dot_S16x2048x1024_S1024x1024_S16x2048x1024_2_0_01_1_n_n none A.ya A.wa))
      (mulf (extractStridedSlice S16x2048x1024 ![0, 0, 1024] (gate A) slices_S16x2048x2048_S16x2048x1024_0_0_1024)
        (Host.dotGeneral dot_S16x2048x2048_S2048x1024_S16x2048x1024_2_0_01_1_n_n none A.yb A.wb))) A.wo)

/-- The norm of the tokens. -/
def rms (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf
      (broadcastInDim S16x2048x1 ![0, 1] bcast_S16x2048_S16x2048x1_0_1 (Host.reduceAdd (mulf x x) (constant S_ .f32 0x00000000#32)
        reducesTo_S16x2048x1024_S16x2048_d2 h_S_))
      (broadcastInDim S16x2048x1 ![] bcast_S_S16x2048x1 (constant S_ .f32 0x44800000#32)))
      (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The context and the up projection. -/
def ext (A : Args) : FVec Ideal S16x2050x6144 .f32 :=
  concatenate S16x2050x6144 1 [⟨S16x2x6144, A.ctx⟩, ⟨S16x2048x6144,
    Host.dotGeneral dot_S16x2048x1024_S1024x6144_S16x2048x6144_2_0_01_1_n_n none (rms (x1 A) A.gf) A.wu⟩]
    concatenates_S16x2x6144_S16x2048x6144_S16x2050x6144_d1

/-- One tap of the convolution's weights, for all tokens. -/
def wide (w : FVec Ideal S6144 .f32) : FVec Ideal S16x2048x6144 .f32 :=
  broadcastInDim S16x2048x6144 ![0, 1, 2] bcast_S1x1x6144_S16x2048x6144_0_1_2 (broadcastInDim S1x1x6144 ![2] bcast_S6144_S1x1x6144_2 w)

/-- The convolution. -/
def cv (A : Args) : FVec Ideal S16x2048x6144 .f32 :=
  addf (addf (addf (wide A.cb)
      (mulf (extractStridedSlice S16x2048x6144 ![0, 0, 0] (ext A) slices_S16x2050x6144_S16x2048x6144_0_0_0)
        (wide (shapeCast _ (extractStridedSlice S1x6144 ![0, 0] A.cw slices_S3x6144_S1x6144_0_0) shapeCasts_S1x6144_S6144))))
      (mulf (extractStridedSlice S16x2048x6144 ![0, 1, 0] (ext A) slices_S16x2050x6144_S16x2048x6144_0_1_0)
        (wide (shapeCast _ (extractStridedSlice S1x6144 ![1, 0] A.cw slices_S3x6144_S1x6144_1_0) shapeCasts_S1x6144_S6144))))
      (mulf (extractStridedSlice S16x2048x6144 ![0, 2, 0] (ext A) slices_S16x2050x6144_S16x2048x6144_0_2_0)
        (wide (shapeCast _ (extractStridedSlice S1x6144 ![2, 0] A.cw slices_S3x6144_S1x6144_2_0) shapeCasts_S1x6144_S6144)))

/-- The activation. -/
def gelu (u : FVec Ideal S16x2048x3072 .f32) : FVec Ideal S16x2048x3072 .f32 :=
  mulf u (mulf (broadcastInDim S16x2048x3072 ![] bcast_S_S16x2048x3072 (constant S_ .f32 0x3F000000#32))
    (addf (broadcastInDim S16x2048x3072 ![] bcast_S_S16x2048x3072 (constant S_ .f32 0x3F800000#32))
      (Host.tanh (mulf (broadcastInDim S16x2048x3072 ![] bcast_S_S16x2048x3072 (constant S_ .f32 0x3F4C422A#32))
        (addf u (mulf (broadcastInDim S16x2048x3072 ![] bcast_S_S16x2048x3072 (constant S_ .f32 0x3D372713#32)) (mulf (mulf u u) u)))))))

/-- The tokens after the down projection. -/
def x2 (A : Args) : FVec Ideal S16x2048x1024 .f32 :=
  addf (x1 A) (Host.dotGeneral dot_S16x2048x3072_S3072x1024_S16x2048x1024_2_0_01_1_n_n none
    (mulf (gelu (extractStridedSlice S16x2048x3072 ![0, 0, 0] (cv A) slices_S16x2048x6144_S16x2048x3072_0_0_0))
      (extractStridedSlice S16x2048x3072 ![0, 0, 3072] (cv A) slices_S16x2048x6144_S16x2048x3072_0_0_3072)) A.wd)

/-- The result. -/
def y (A : Args) : FVec Ideal S32768x1024 .f32 :=
  shapeCast _ (addf (x2 A) (mulf (Host.divf (broadcastInDim S16x2048x1024 ![] bcast_S_S16x2048x1024 (constant S_ .f32 0x3F800000#32))
      (addf (broadcastInDim S16x2048x1024 ![] bcast_S_S16x2048x1024 (constant S_ .f32 0x3F800000#32))
        (Host.exp (Host.negf (Host.dotGeneral dot_S16x2048x1024_S1024x1024_S16x2048x1024_2_0_01_1_n_n none (rms (x2 A) A.gp) A.wg)))))
      (Host.dotGeneral dot_S16x2048x256_S256x1024_S16x2048x1024_2_0_01_1_n_n none A.pe A.wp))) shapeCasts_S16x2048x1024_S32768x1024

/-- The pattern of 1. -/
theorem ofBits_one : Ideal.ofBits .f32 0x3F800000#32 = 1 := by
  simp [Ideal.ofBits, Ideal.ieee, -EReal.coe_mul]
  norm_num

theorem gate_apply (A : Args) (b : Fin 16) (s : Fin 2048) (l : Fin 2048) :
    gate A (ix3 b s l) = Ideal.logistic (A.g (ix3 b s l) + A.bg (ix1 l)) := by
  unfold Ideal.logistic
  pointwise [gate, ofBits_one]

/-- The weights. -/
def Args.par (A : Args) : Par where
  bg l := A.bg (ix1 l)
  wa e d := A.wa (ix2 e d)
  wb e d := A.wb (ix2 e d)
  wo e d := A.wo (ix2 e d)
  gf l := A.gf (ix1 l)
  wu d c := A.wu (ix2 d c)
  cw k c := A.cw (ix2 k c)
  cb c := A.cb (ix1 c)
  wd c l := A.wd (ix2 c l)
  gp l := A.gp (ix1 l)
  wg d l := A.wg (ix2 d l)
  wp d l := A.wp (ix2 d l)

/-- Token `s` of sequence `b`. -/
def Args.tok (A : Args) (b : Fin 16) (s : Fin 2048) : Tok where
  x l := A.x (ix3 b s l)
  ya l := A.ya (ix3 b s l)
  yb l := A.yb (ix3 b s l)
  g l := A.g (ix3 b s l)
  pe l := A.pe (ix3 b s l)

theorem x1_apply (A : Args) (b : Fin 16) (s : Fin 2048) (l : Fin 1024) : x1 A (ix3 b s l) = A.par.x1 (A.tok b s) l := by
  unfold Par.x1 Args.par Args.tok
  pointwise [x1, gate_apply]

theorem rms_apply (x : FVec Ideal S16x2048x1024 .f32) (g : FVec Ideal S1024 .f32) (b : Fin 16) (s : Fin 2048) (l : Fin 1024) :
    rms x g (ix3 b s l) = Cert.FfnIdeal.Block.norm (fun l => g (ix1 l)) (fun l => x (ix3 b s l)) l := by
  unfold Cert.FfnIdeal.Block.norm
  pointwise [rms]

/-- The projection of the token `k` before token `s`: the first ones' are the context's rows. -/
def Args.prev (A : Args) (b : Fin 16) (s : Fin 2048) (k : Fin 3) (c : Fin 6144) : EReal :=
  if h : s.val < k.val then A.ctx (ix3 b ⟨s.val + 2 - k.val, by omega⟩ c) else A.par.up (A.tok b ⟨s.val - k.val, by omega⟩) c

theorem up_apply (A : Args) (b : Fin 16) (s : Fin 2048) (c : Fin 6144) :
    Host.dotGeneral dot_S16x2048x1024_S1024x6144_S16x2048x6144_2_0_01_1_n_n none (rms (x1 A) A.gf) A.wu (ix3 b s c)
      = A.par.up (A.tok b s) c := by
  have h : Host.dotGeneral dot_S16x2048x1024_S1024x6144_S16x2048x6144_2_0_01_1_n_n none (rms (x1 A) A.gf) A.wu (ix3 b s c)
      = ∑ d : Fin 1024, rms (x1 A) A.gf (ix3 b s d) * A.wu (ix2 d c) := by pointwise
  rw [h]
  simp only [rms_apply, x1_apply]
  rfl

theorem ext_apply (A : Args) (b : Fin 16) (r : Fin 2050) (c : Fin 6144) :
    ext A (ix3 b r c) = if h : r.val < 2 then A.ctx (ix3 b ⟨r.val, h⟩ c) else A.par.up (A.tok b ⟨r.val - 2, by omega⟩) c := by
  unfold ext
  generalize hu : Host.dotGeneral dot_S16x2048x1024_S1024x6144_S16x2048x6144_2_0_01_1_n_n none (rms (x1 A) A.gf) A.wu = U
  pointwise
  subst hu
  simp only [up_apply]

/-- The row two after token `s`, less `k`, is the projection `k` before it. -/
theorem ext_prev (A : Args) (b : Fin 16) (s : Fin 2048) (k : Fin 3) (r : Fin 2050) (hr : r.val + k.val = s.val + 2) (c : Fin 6144) :
    ext A (ix3 b r c) = A.prev b s k c := by
  rw [ext_apply]
  unfold Args.prev
  by_cases h : s.val < k.val
  · rw [dif_pos h, dif_pos (show r.val < 2 by omega)]
    exact congrArg (fun n => A.ctx (ix3 b n c)) (Fin.ext (by dsimp only; omega))
  · rw [dif_neg h, dif_neg (show ¬ r.val < 2 by omega)]
    exact congrArg (fun n => A.par.up (A.tok b n) c) (Fin.ext (by dsimp only; omega))

theorem prev_zero (A : Args) (b : Fin 16) (s : Fin 2048) (c : Fin 6144) : A.prev b s 0 c = A.par.up (A.tok b s) c := by
  unfold Args.prev
  rw [dif_neg (show ¬ s.val < (0 : Fin 3).val from Nat.not_lt_zero _)]
  rfl

/-- Four terms in the other order. -/
theorem sum_turned (a x y z : EReal) : a + x + y + z = a + z + y + x := by
  rw [add_assoc, add_assoc a z y, add_assoc a x, add_assoc a (z + y) x]
  exact congrArg (a + ·) (by rw [add_comm z y, add_comm (y + z) x])

theorem cv_apply (A : Args) (b : Fin 16) (s : Fin 2048) (c : Fin 6144) :
    cv A (ix3 b s c) = A.par.conv (A.par.up (A.tok b s)) (A.prev b s 1) (A.prev b s 2) c := by
  unfold cv
  generalize he : ext A = E
  pointwise [wide]
  subst he
  rw [ext_prev A b s 2 ⟨s.val, by omega⟩ rfl, ext_prev A b s 1 _ (by show 1 + s.val + 1 = s.val + 2; omega),
    ext_prev A b s 0 _ (by show 2 + s.val + 0 = s.val + 2; omega), prev_zero]
  exact sum_turned _ _ _ _

/-- The reference's activation. -/
def gr (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * v * v)))))

theorem gelu_apply (u : FVec Ideal S16x2048x3072 .f32) (b : Fin 16) (s : Fin 2048) (c : Fin 3072) :
    gelu u (ix3 b s c) = gr (u (ix3 b s c)) := by
  unfold gr
  pointwise [gelu]

/-- The activations of a token. -/
def Args.act (A : Args) (b : Fin 16) (s : Fin 2048) (c : Fin 3072) : EReal :=
  gr (A.par.conv (A.par.up (A.tok b s)) (A.prev b s 1) (A.prev b s 2) ⟨c.val, by omega⟩)
    * A.par.conv (A.par.up (A.tok b s)) (A.prev b s 1) (A.prev b s 2) ⟨3072 + c.val, by omega⟩

theorem x2_apply (A : Args) (b : Fin 16) (s : Fin 2048) (l : Fin 1024) : x2 A (ix3 b s l) = A.par.x2 (A.tok b s) (A.act b s) l := by
  unfold x2
  generalize he : cv A = E
  generalize hx : x1 A = X
  pointwise [gelu_apply]
  subst he hx
  simp only [cv_apply, x1_apply]
  rfl

theorem y_apply (A : Args) (b : Fin 16) (s : Fin 2048) (n : Fin 32768) (hn : n.val = 2048 * b.val + s.val) (l : Fin 1024) :
    y A (ix2 n l) = A.par.y (A.tok b s) (A.act b s) l := by
  have hb : ∀ h, (⟨n.val / 2048, h⟩ : Fin 16) = b := fun h => Fin.ext (by dsimp only; omega)
  have hs : ∀ h, (⟨n.val % 2048, h⟩ : Fin 2048) = s := fun h => Fin.ext (by dsimp only; omega)
  unfold y Par.y
  generalize he : rms (x2 A) A.gp = E
  generalize hx : x2 A = X
  unfold Ideal.logistic
  pointwise [ofBits_one, hb, hs]
  subst he hx
  simp only [rms_apply, x2_apply]
  rfl

end Cert.FfnReferenceIdeal.Layer
-- ==== Proof.FfnAct.lean ====
module

public import proofs.«01_k».proof.Proof.FfnTok
public import proofs.«01_k».proof.Proof.FfnRef

/-!
The kernel's activation, with the values' half of the convolution halved beforehand, is the reference's.
-/

@[expose] public section

set_option maxRecDepth 16384

noncomputable section

namespace Cert.FfnAct

open Idealize.ShloMosaic Idealize.ShloMosaic.TcCoe Idealize.SL.Sem
open Cert.FfnIdeal.Block (gk)
open Cert.FfnReferenceIdeal.Layer (gr)

/-- The pattern of 1/2. -/
theorem ofBits_half : Ideal.ofBits .f32 0x3F000000#32 = ((1 / 2 : ℝ) : EReal) := by
  simp [Ideal.ofBits, Ideal.ieee, -EReal.coe_mul]
  norm_num

/-- The pattern of √(2/π). -/
theorem ofBits_outer : Ideal.ofBits .f32 0x3F4C422A#32 = ((13386282 / 16777216 : ℝ) : EReal) := by
  simp [Ideal.ofBits, Ideal.ieee, -EReal.coe_mul]
  norm_num

/-- The pattern of 0.044715. -/
theorem ofBits_cubic : Ideal.ofBits .f32 0x3D372713#32 = ((12003091 / 268435456 : ℝ) : EReal) := by
  simp [Ideal.ofBits, Ideal.ieee, -EReal.coe_mul]
  norm_num

/-- The kernel's factor of the cubic term is their product. -/
theorem named_cube : Named.named (F := Ideal) (φ := .f32) Cert.FfnIdeal.κ "cube" 0x3D122279#32
    = ((13386282 / 16777216 * (12003091 / 268435456) : ℝ) : EReal) := by
  have h : Cert.FfnIdeal.κ "cube" = some ((80338380498831 / 2251799813685248 : ℝ) : EReal) := rfl
  simp only [Named.named, h, Option.getD]
  norm_num

/-- The argument of the hyperbolic tangent, for a positive outer factor. -/
theorem inner_eq (a c : ℝ) (ha : 0 < a) (hc : 0 < c) (v : EReal) :
    v * ((a : EReal) + ((a * c : ℝ) : EReal) * (v * v)) = (a : EReal) * (v + (c : EReal) * (v * v * v)) := by
  induction v using EReal.rec with
  | bot =>
    have hac : 0 < a * c := mul_pos ha hc
    rw [EReal.bot_mul_bot, EReal.coe_mul_top_of_pos hac, EReal.coe_add_top, EReal.bot_mul_top, EReal.top_mul_bot,
      EReal.coe_mul_bot_of_pos hc, EReal.bot_add, EReal.coe_mul_bot_of_pos ha]
  | top =>
    have hac : 0 < a * c := mul_pos ha hc
    rw [EReal.top_mul_top, EReal.coe_mul_top_of_pos hac, EReal.coe_add_top, EReal.top_mul_top,
      EReal.coe_mul_top_of_pos hc, EReal.top_add_top, EReal.coe_mul_top_of_pos ha]
  | coe r =>
    norm_cast
    ring

theorem gk_half (v w : EReal) : gk v * (w * ((1 / 2 : ℝ) : EReal)) = gr v * w := by
  unfold gk gr
  rw [named_cube, ofBits_outer, ofBits_cubic, ofBits_half, inner_eq _ _ (by norm_num) (by norm_num)]
  simp only [mul_comm, mul_left_comm, mul_assoc]

/-- Halving each of four terms halves their sum. -/
theorem half_sum (a b c d : EReal) (u0 u1 u2 : EReal) :
    a * ((1 / 2 : ℝ) : EReal) + u0 * (b * ((1 / 2 : ℝ) : EReal)) + u1 * (c * ((1 / 2 : ℝ) : EReal)) + u2 * (d * ((1 / 2 : ℝ) : EReal))
      = (a + u0 * b + u1 * c + u2 * d) * ((1 / 2 : ℝ) : EReal) := by
  have h0 : (0 : EReal) ≤ ((1 / 2 : ℝ) : EReal) := by exact_mod_cast (by norm_num : (0 : ℝ) ≤ 1 / 2)
  have ht : ((1 / 2 : ℝ) : EReal) ≠ ⊤ := EReal.coe_ne_top _
  rw [EReal.right_distrib_of_nonneg_of_ne_top h0 ht, EReal.right_distrib_of_nonneg_of_ne_top h0 ht,
    EReal.right_distrib_of_nonneg_of_ne_top h0 ht, mul_assoc, mul_assoc, mul_assoc]

end Cert.FfnAct
-- ==== Proof.FfnHost.lean ====
module

public import proofs.«01_k».proof.Proof.Gen.FfnIdeal.Frame.Runs
public import proofs.«01_k».proof.Proof.FfnRef
public import proofs.«01_k».proof.Proof.FfnAct
public import Idealize.ShloMosaic.Lib.StableHlo.ReadAt
public import Idealize.ShloMosaic.Lib.Pointwise
public import Idealize.ShloMosaic.Lib.Pipeline.ValueKit

/-!
What the feed-forward call's host operations leave in the kernel's operands.
-/

@[expose] public section

set_option maxRecDepth 16384

noncomputable section

namespace Cert.FfnIdeal.Block

open Idealize.ShloMosaic Idealize.ShloMosaic.TcCoe Idealize.SL.Sem
open Cert.FfnIdeal Cert.FfnIdeal.Gen

variable (m : (ℓ : Loc nD τ sig) → Buf (Elt Ideal) ℓ) (c : Dev nD)

/-- The call's arguments. -/
def argsOf : Cert.FfnReferenceIdeal.Layer.Args where
  x := m ((c : Thread nD τ).loc main_arg0)
  ya := m ((c : Thread nD τ).loc main_arg1)
  yb := m ((c : Thread nD τ).loc main_arg2)
  g := m ((c : Thread nD τ).loc main_arg3)
  pe := m ((c : Thread nD τ).loc main_arg4)
  ctx := m ((c : Thread nD τ).loc main_arg5)
  bg := m ((c : Thread nD τ).loc main_arg6)
  wa := m ((c : Thread nD τ).loc main_arg7)
  wb := m ((c : Thread nD τ).loc main_arg8)
  wo := m ((c : Thread nD τ).loc main_arg9)
  gf := m ((c : Thread nD τ).loc main_arg10)
  wu := m ((c : Thread nD τ).loc main_arg11)
  cw := m ((c : Thread nD τ).loc main_arg12)
  cb := m ((c : Thread nD τ).loc main_arg13)
  wd := m ((c : Thread nD τ).loc main_arg14)
  gp := m ((c : Thread nD τ).loc main_arg15)
  wg := m ((c : Thread nD τ).loc main_arg16)
  wp := m ((c : Thread nD τ).loc main_arg17)

/-- One on the gate's columns and a half on the values'. -/
def halves : FVec Ideal S6144 .f32 :=
  select (cmpi .slt (iotaInDim S6144 32 0) (broadcastInDim S6144 ![] bcast_S_S6144 (constantI S_ 32 3072#32)))
    (broadcastInDim S6144 ![] bcast_S_S6144 (constant S_ .f32 0x3F800000#32))
    (broadcastInDim S6144 ![] bcast_S_S6144 (constant S_ .f32 0x3F000000#32))

/-- The same as a row. -/
def halfRow : FVec Ideal S1x6144 .f32 := broadcastInDim S1x6144 ![1] bcast_S6144_S1x6144_1 halves

/-- The carried rows, the last one first and then both. -/
def heads (ctx : FVec Ideal S16x2x6144 .f32) : FVec Ideal S16x16x6144 .f32 :=
  concatenate S16x16x6144 1
    [⟨S16x8x6144, pad S16x8x6144 ![0, 0, 0] ![0, 7, 0] ![0, 0, 0] (extractStridedSlice S16x1x6144 ![0, 1, 0] ctx slices_S16x2x6144_S16x1x6144_0_1_0)
      (sitofp .f32 (constantI S_ 32 0#32)) pads_S16x1x6144_S16x8x6144_000_070_000 h_S_⟩,
     ⟨S16x8x6144, pad S16x8x6144 ![0, 0, 0] ![0, 6, 0] ![0, 0, 0] ctx
      (sitofp .f32 (constantI S_ 32 0#32)) pads_S16x2x6144_S16x8x6144_000_060_000 h_S_⟩] concatenates_S16x8x6144_S16x8x6144_S16x16x6144_d1

/-- The taps. -/
def taps (w : FVec Ideal S3x6144 .f32) : FVec Ideal S8x6144 .f32 :=
  pad S8x6144 ![0, 0] ![5, 0] ![0, 0] (mulf w (broadcastInDim S3x6144 ![0, 1] bcast_S1x6144_S3x6144_0_1 halfRow))
    (sitofp .f32 (constantI S_ 32 0#32)) pads_S3x6144_S8x6144_050_000 h_S_

theorem v21 : V m c main_v21 = (shapeCast S32768x1024 (argsOf m c).x shapeCasts_S16x2048x1024_S32768x1024 : FVec Ideal S32768x1024 .f32) := by
  after_reads_simp
  rfl
theorem v32 : V m c main_v32 = heads (argsOf m c).ctx := by
  after_reads_simp
  rfl
theorem v14 : V m c main_v14 = taps (argsOf m c).cw := by
  after_reads_simp
  rfl
theorem v16 : V m c main_v16 = (mulf (shapeCast S1x6144 (argsOf m c).cb shapeCasts_S6144_S1x6144) halfRow : FVec Ideal S1x6144 .f32) := by
  after_reads_simp
  rfl
theorem v23 : V m c main_v23 = (truncf .bf16 (shapeCast S32768x1024 (argsOf m c).ya shapeCasts_S16x2048x1024_S32768x1024) bitsLt_bf16_f32 : FVec Ideal S32768x1024 .bf16) := by
  after_reads_simp
  rfl
theorem v25 : V m c main_v25 = (truncf .bf16 (shapeCast S32768x2048 (argsOf m c).yb shapeCasts_S16x2048x2048_S32768x2048) bitsLt_bf16_f32 : FVec Ideal S32768x2048 .bf16) := by
  after_reads_simp
  rfl
theorem v27 : V m c main_v27 = (truncf .bf16 (shapeCast S32768x2048 (argsOf m c).g shapeCasts_S16x2048x2048_S32768x2048) bitsLt_bf16_f32 : FVec Ideal S32768x2048 .bf16) := by
  after_reads_simp
  rfl
theorem v28 : V m c main_v28 = (shapeCast S32768x256 (argsOf m c).pe shapeCasts_S16x2048x256_S32768x256 : FVec Ideal S32768x256 .f32) := by
  after_reads_simp
  rfl
theorem v6 : V m c main_v6 = (shapeCast S1x2048 (argsOf m c).bg shapeCasts_S2048_S1x2048 : FVec Ideal S1x2048 .f32) := by
  after_reads_simp
  rfl
theorem v7 : V m c main_v7 = (truncf .bf16 (argsOf m c).wa bitsLt_bf16_f32 : FVec Ideal S1024x1024 .bf16) := by
  after_reads_simp
  rfl
theorem v8 : V m c main_v8 = (truncf .bf16 (argsOf m c).wb bitsLt_bf16_f32 : FVec Ideal S2048x1024 .bf16) := by
  after_reads_simp
  rfl
theorem v9 : V m c main_v9 = (truncf .bf16 (argsOf m c).wo bitsLt_bf16_f32 : FVec Ideal S1024x1024 .bf16) := by
  after_reads_simp
  rfl
theorem v10 : V m c main_v10 = (shapeCast S1x1024 (argsOf m c).gf shapeCasts_S1024_S1x1024 : FVec Ideal S1x1024 .f32) := by
  after_reads_simp
  rfl
theorem v11 : V m c main_v11 = (truncf .bf16 (argsOf m c).wu bitsLt_bf16_f32 : FVec Ideal S1024x6144 .bf16) := by
  after_reads_simp
  rfl
theorem v17 : V m c main_v17 = (truncf .bf16 (argsOf m c).wd bitsLt_bf16_f32 : FVec Ideal S3072x1024 .bf16) := by
  after_reads_simp
  rfl
theorem v18 : V m c main_v18 = (shapeCast S1x1024 (argsOf m c).gp shapeCasts_S1024_S1x1024 : FVec Ideal S1x1024 .f32) := by
  after_reads_simp
  rfl
theorem v19 : V m c main_v19 = (truncf .bf16 (argsOf m c).wg bitsLt_bf16_f32 : FVec Ideal S1024x1024 .bf16) := by
  after_reads_simp
  rfl
theorem v20 : V m c main_v20 = (truncf .bf16 (argsOf m c).wp bitsLt_bf16_f32 : FVec Ideal S256x1024 .bf16) := by
  after_reads_simp
  rfl

/-- One for a gate's column, a half for a value's. -/
def half (k : Fin 6144) : EReal := if k.val < 3072 then 1 else ((1 / 2 : ℝ) : EReal)

theorem halfRow_apply (k : Fin 6144) : halfRow (ix2 0 k) = half k := by
  have h : IntOp.cmpi .slt (BitVec.ofNat 32 k.val) 3072#32 = if k.val < 3072 then 1#1 else 0#1 := by
    revert k; decide +kernel
  unfold half
  pointwise [halfRow, halves]
  rw [h, Cert.FfnAct.ofBits_half]
  split <;> rfl

theorem taps_apply (w : FVec Ideal S3x6144 .f32) (k : Fin 3) (j : Fin 6144) :
    taps w (ix2 ⟨k.val, by omega⟩ j) = w (ix2 k j) * half j := by
  pointwise [taps]
  rw [halfRow_apply]

theorem heads_first (x : FVec Ideal S16x2x6144 .f32) (b : Fin 16) (j : Fin 6144) :
    heads x (ix3 b 0 j) = x (ix3 b 1 j) := by
  pointwise [heads]

theorem heads_second (x : FVec Ideal S16x2x6144 .f32) (b : Fin 16) (k : Fin 2) (j : Fin 6144) :
    heads x (ix3 b ⟨8 + k.val, by omega⟩ j) = x (ix3 b k j) := by
  pointwise [heads]

/-- The token of block `t`'s row `r`. -/
def place (t : Fin cfg0.N) (r : Fin 256) : Fin 2048 := ⟨256 * (t.val % 8) + r.val, by omega⟩

/-- The sequence of block `t`. -/
def seq (t : Fin cfg0.N) : Fin 16 := ⟨t.val / 8, by have := lt_of_lt_of_eq t.isLt (show cfg0.N = 128 from N_0); omega⟩

theorem idx (t : Fin cfg0.N) : (cfg0.win 0).index t = ![t.val, 0] ∧ (cfg0.win 1).index t = ![t.val, 0] ∧ (cfg0.win 2).index t = ![t.val, 0]
    ∧ (cfg0.win 3).index t = ![t.val, 0] ∧ (cfg0.win 4).index t = ![t.val, 0] ∧ (cfg0.win 5).index t = ![t.val / 8, 0, 0] := by
  revert t; decide +kernel

/-- Row `r` of block `t` among all the tokens. -/
def flat (t : Fin cfg0.N) (r : Fin 256) : Fin 32768 := ⟨256 * t.val + r.val, by have := lt_of_lt_of_eq t.isLt (show cfg0.N = 128 from N_0); omega⟩

theorem flat_seq {n : ℕ} (X : FVec Ideal ⟨3, ![16, 2048, n]⟩ .f32) (t : Fin cfg0.N) (r : Fin 256) (l : Fin n) (h0 h1) :
    X (ix3 ⟨(flat t r).val / 2048, h0⟩ ⟨(flat t r).val % 2048, h1⟩ l) = X (ix3 (seq t) (place t r) l) := by
  refine congrArg₂ (fun a b => X (ix3 a b l)) (Fin.ext ?_) (Fin.ext ?_)
  · show (256 * t.val + r.val) / 2048 = t.val / 8
    omega
  · show (256 * t.val + r.val) % 2048 = 256 * (t.val % 8) + r.val
    omega

theorem read0 (t : Fin cfg0.N) (r : Fin 256) (l : Fin 1024) :
    iblk m c 0 t (ix2 r l) = (argsOf m c).x (ix3 (seq t) (place t r) l) := by
  obtain ⟨h0, -, -, -, -, -⟩ := idx t
  have h : iblk m c 0 t (ix2 r l) = (V m c main_v21 : FVec Ideal S32768x1024 .f32) (ix2 (flat t r) l) := by
    unfold flat
    blk_ext [iblk, h0]
  rw [h, v21]
  generalize (argsOf m c).x = X
  pointwise []
  exact flat_seq X t r l _ _

theorem read1 (t : Fin cfg0.N) (r : Fin 256) (l : Fin 1024) :
    iblk m c 1 t (ix2 r l) = (argsOf m c).ya (ix3 (seq t) (place t r) l) := by
  obtain ⟨-, h0, -, -, -, -⟩ := idx t
  have h : iblk m c 1 t (ix2 r l) = (V m c main_v23 : FVec Ideal S32768x1024 .bf16) (ix2 (flat t r) l) := by
    unfold flat
    blk_ext [iblk, h0]
  rw [h, v23]
  generalize (argsOf m c).ya = X
  pointwise []
  exact flat_seq X t r l _ _

theorem read2 (t : Fin cfg0.N) (r : Fin 256) (l : Fin 2048) :
    iblk m c 2 t (ix2 r l) = (argsOf m c).yb (ix3 (seq t) (place t r) l) := by
  obtain ⟨-, -, h0, -, -, -⟩ := idx t
  have h : iblk m c 2 t (ix2 r l) = (V m c main_v25 : FVec Ideal S32768x2048 .bf16) (ix2 (flat t r) l) := by
    unfold flat
    blk_ext [iblk, h0]
  rw [h, v25]
  generalize (argsOf m c).yb = X
  pointwise []
  exact flat_seq X t r l _ _

theorem read3 (t : Fin cfg0.N) (r : Fin 256) (l : Fin 2048) :
    iblk m c 3 t (ix2 r l) = (argsOf m c).g (ix3 (seq t) (place t r) l) := by
  obtain ⟨-, -, -, h0, -, -⟩ := idx t
  have h : iblk m c 3 t (ix2 r l) = (V m c main_v27 : FVec Ideal S32768x2048 .bf16) (ix2 (flat t r) l) := by
    unfold flat
    blk_ext [iblk, h0]
  rw [h, v27]
  generalize (argsOf m c).g = X
  pointwise []
  exact flat_seq X t r l _ _

theorem read4 (t : Fin cfg0.N) (r : Fin 256) (l : Fin 256) :
    iblk m c 4 t (ix2 r l) = (argsOf m c).pe (ix3 (seq t) (place t r) l) := by
  obtain ⟨-, -, -, -, h0, -⟩ := idx t
  have h : iblk m c 4 t (ix2 r l) = (V m c main_v28 : FVec Ideal S32768x256 .f32) (ix2 (flat t r) l) := by
    unfold flat
    blk_ext [iblk, h0]
  rw [h, v28]
  generalize (argsOf m c).pe = X
  pointwise []
  exact flat_seq X t r l _ _

theorem read5 (t : Fin cfg0.N) (k : Fin 16) (l : Fin 6144) :
    iblk m c 5 t (ix3 0 k l) = heads (argsOf m c).ctx (ix3 (seq t) k l) := by
  obtain ⟨-, -, -, -, -, h0⟩ := idx t
  have h : iblk m c 5 t (ix3 0 k l) = (V m c main_v32 : FVec Ideal S16x16x6144 .f32) (ix3 (seq t) k l) := by
    unfold seq
    blk_ext [iblk, h0]
  rw [h, v32]

theorem read6 (t : Fin cfg0.N) (i : Fin 1) (l : Fin 2048) :
    iblk m c 6 t (ix2 i l) = (V m c main_v6 : FVec Ideal S1x2048 .f32) (ix2 i l) := by
  have h0 : (cfg0.win 6).index t = ![0, 0] := rfl
  blk_ext [iblk, h0]

theorem read7 (t : Fin cfg0.N) (i : Fin 1024) (l : Fin 1024) :
    iblk m c 7 t (ix2 i l) = (V m c main_v7 : FVec Ideal S1024x1024 .bf16) (ix2 i l) := by
  have h0 : (cfg0.win 7).index t = ![0, 0] := rfl
  blk_ext [iblk, h0]

theorem read8 (t : Fin cfg0.N) (i : Fin 2048) (l : Fin 1024) :
    iblk m c 8 t (ix2 i l) = (V m c main_v8 : FVec Ideal S2048x1024 .bf16) (ix2 i l) := by
  have h0 : (cfg0.win 8).index t = ![0, 0] := rfl
  blk_ext [iblk, h0]

theorem read9 (t : Fin cfg0.N) (i : Fin 1024) (l : Fin 1024) :
    iblk m c 9 t (ix2 i l) = (V m c main_v9 : FVec Ideal S1024x1024 .bf16) (ix2 i l) := by
  have h0 : (cfg0.win 9).index t = ![0, 0] := rfl
  blk_ext [iblk, h0]

theorem read10 (t : Fin cfg0.N) (i : Fin 1) (l : Fin 1024) :
    iblk m c 10 t (ix2 i l) = (V m c main_v10 : FVec Ideal S1x1024 .f32) (ix2 i l) := by
  have h0 : (cfg0.win 10).index t = ![0, 0] := rfl
  blk_ext [iblk, h0]

theorem read11 (t : Fin cfg0.N) (i : Fin 1024) (l : Fin 6144) :
    iblk m c 11 t (ix2 i l) = (V m c main_v11 : FVec Ideal S1024x6144 .bf16) (ix2 i l) := by
  have h0 : (cfg0.win 11).index t = ![0, 0] := rfl
  blk_ext [iblk, h0]

theorem read12 (t : Fin cfg0.N) (i : Fin 8) (l : Fin 6144) :
    iblk m c 12 t (ix2 i l) = (V m c main_v14 : FVec Ideal S8x6144 .f32) (ix2 i l) := by
  have h0 : (cfg0.win 12).index t = ![0, 0] := rfl
  blk_ext [iblk, h0]

theorem read13 (t : Fin cfg0.N) (i : Fin 1) (l : Fin 6144) :
    iblk m c 13 t (ix2 i l) = (V m c main_v16 : FVec Ideal S1x6144 .f32) (ix2 i l) := by
  have h0 : (cfg0.win 13).index t = ![0, 0] := rfl
  blk_ext [iblk, h0]

theorem read14 (t : Fin cfg0.N) (i : Fin 3072) (l : Fin 1024) :
    iblk m c 14 t (ix2 i l) = (V m c main_v17 : FVec Ideal S3072x1024 .bf16) (ix2 i l) := by
  have h0 : (cfg0.win 14).index t = ![0, 0] := rfl
  blk_ext [iblk, h0]

theorem read15 (t : Fin cfg0.N) (i : Fin 1) (l : Fin 1024) :
    iblk m c 15 t (ix2 i l) = (V m c main_v18 : FVec Ideal S1x1024 .f32) (ix2 i l) := by
  have h0 : (cfg0.win 15).index t = ![0, 0] := rfl
  blk_ext [iblk, h0]

theorem read16 (t : Fin cfg0.N) (i : Fin 1024) (l : Fin 1024) :
    iblk m c 16 t (ix2 i l) = (V m c main_v19 : FVec Ideal S1024x1024 .bf16) (ix2 i l) := by
  have h0 : (cfg0.win 16).index t = ![0, 0] := rfl
  blk_ext [iblk, h0]

theorem read17 (t : Fin cfg0.N) (i : Fin 256) (l : Fin 1024) :
    iblk m c 17 t (ix2 i l) = (V m c main_v20 : FVec Ideal S256x1024 .bf16) (ix2 i l) := by
  have h0 : (cfg0.win 17).index t = ![0, 0] := rfl
  blk_ext [iblk, h0]
-- ==== Proof.FfnTile.lean ====
module

public import proofs.«01_k».proof.Proof.FfnTok

/-!
A block of 256 tokens as the kernel computes it, and its reading at a token.
-/

@[expose] public section

set_option maxRecDepth 16384

noncomputable section

namespace Cert.FfnIdeal.Block

open Idealize.ShloMosaic Idealize.ShloMosaic.TcCoe Idealize.SL.Sem
open Cert.FfnIdeal Cert.FfnIdeal.Gen

/-- The activation of the gate half. -/
def gelu (g : FVec Ideal S256x1024 .f32) : FVec Ideal S256x1024 .f32 :=
  mulf g (addf (broadcast S256x1024 (Scalar.ofBits .f32 0x3F800000#32))
    (tanh (mulf g (addf (broadcast S256x1024 (Scalar.ofBits .f32 0x3F4C422A#32))
      (mulf (broadcast S256x1024 (Named.named κ "cube" 0x3D122279#32)) (mulf g g))))))

/-- One block of the down projection. -/
def down (h : FVec Ideal S256x1024 .f32) (w : FVec Ideal S1024x1024 .bf16) : FVec Ideal S256x1024 .f32 :=
  matmul dot_S256x1024_S1024x1024_S256x1024_1_0_0_1_n_n none (truncf .bf16 h bitsLt_bf16_f32)
    (shapeCast S1024x1024 w shapeCasts_S1024x1024_S1024x1024) (constant S256x1024 .f32 0x00000000#32)

/-- The norm of a block's rows. -/
def rms (x : FVec Ideal S256x1024 .f32) (g : FVec Ideal S1x1024 .f32) : FVec Ideal S256x1024 .bf16 :=
  truncf .bf16 (mulf (mulf x (broadcastTo S256x1024 (rsqrt (addf (divf (shapeCast S256x1
      (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024)) (row g)) bitsLt_bf16_f32

/-- The blocks the kernel reads: the tokens' rows, the weights (the wide ones in blocks of 1024 columns or rows), the carried rows. -/
structure Blocks where
  x : FVec Ideal S256x1024 .f32
  ya : FVec Ideal S256x1024 .bf16
  yb : FVec Ideal S256x2048 .bf16
  g : FVec Ideal S256x2048 .bf16
  pe : FVec Ideal S256x256 .f32
  bg : FVec Ideal S1x2048 .f32
  wa : FVec Ideal S1024x1024 .bf16
  wb : FVec Ideal S2048x1024 .bf16
  wo : FVec Ideal S1024x1024 .bf16
  gf : FVec Ideal S1x1024 .f32
  wu : Fin 6 → FVec Ideal S1024x1024 .bf16
  cw : Fin 3 → Fin 6 → FVec Ideal S1x1024 .f32
  cb : Fin 6 → FVec Ideal S1x1024 .f32
  wd : Fin 3 → FVec Ideal S1024x1024 .bf16
  gp : FVec Ideal S1x1024 .f32
  wg : FVec Ideal S1024x1024 .bf16
  wp : FVec Ideal S256x1024 .bf16
  hd : Fin 2 → Fin 6 → FVec Ideal S1x1x8x1024 .f32

/-- The tokens after the merge. -/
def Blocks.x1 (Q : Blocks) : FVec Ideal S256x1024 .f32 := k0_pay5 (k0_pay4 Q.g Q.bg Q.ya Q.wa Q.yb Q.wb) Q.x Q.wo

/-- The up projection's block of columns `j`. -/
def Blocks.up (Q : Blocks) (j : Fin 6) : FVec Ideal S256x1024 .f32 := k0_pay9 (rms Q.x1 Q.gf) (Q.wu j)

/-- Its convolution. -/
def Blocks.cv (Q : Blocks) (j : Fin 6) : FVec Ideal S256x1024 .f32 :=
  conv (Q.up j) (Q.cb j) (Q.cw 2 j) (Q.cw 1 j) (Q.cw 0 j) (Q.hd 0 j) (Q.hd 1 j)

/-- The activations of the gate's block `j` and the values' block `v`, projected down by block `j` of rows. -/
def Blocks.dn (Q : Blocks) (j : Fin 3) (g v : Fin 6) : FVec Ideal S256x1024 .f32 := down (mulf (gelu (Q.cv g)) (Q.cv v)) (Q.wd j)

/-- The tokens after the down projection. -/
def Blocks.x2 (Q : Blocks) : FVec Ideal S256x1024 .f32 :=
  addf Q.x1 (addf (addf (addf k0_pay8 (Q.dn 0 0 3)) (Q.dn 1 1 4)) (Q.dn 2 2 5))

/-- The block's result. -/
def Blocks.y (Q : Blocks) : FVec Ideal S256x1024 .f32 := k0_pay1 Q.x2 (rms Q.x2 Q.gp) Q.wg Q.pe Q.wp

theorem rms_apply (x : FVec Ideal S256x1024 .f32) (g : FVec Ideal S1x1024 .f32) (r : Fin 256) (l : Fin 1024) :
    rms x g (ix2 r l) = norm (fun l => g (ix2 0 l)) (fun l => x (ix2 r l)) l := by
  unfold norm
  pointwise [rms, row]

theorem down_apply (h : FVec Ideal S256x1024 .f32) (w : FVec Ideal S1024x1024 .bf16) (r : Fin 256) (l : Fin 1024) :
    down h w (ix2 r l) = ∑ d : Fin 1024, h (ix2 r d) * w (ix2 d l) := by
  pointwise [down]

theorem pay9_apply (h : FVec Ideal S256x1024 .bf16) (w : FVec Ideal S1024x1024 .bf16) (r : Fin 256) (l : Fin 1024) :
    k0_pay9 (F := Ideal) h w (ix2 r l) = ∑ d : Fin 1024, h (ix2 r d) * w (ix2 d l) := by
  pointwise [k0_pay9]

theorem pay1_apply (x : FVec Ideal S256x1024 .f32) (n : FVec Ideal S256x1024 .bf16) (w : FVec Ideal S1024x1024 .bf16)
    (p : FVec Ideal S256x256 .f32) (v : FVec Ideal S256x1024 .bf16) (r : Fin 256) (l : Fin 1024) :
    k0_pay1 (F := Ideal) x n w p v (ix2 r l)
      = x (ix2 r l) + Ideal.logistic (∑ d : Fin 1024, n (ix2 r d) * w (ix2 d l)) * (∑ d : Fin 256, p (ix2 r d) * v (ix2 d l)) := by
  pointwise [k0_pay1]

/-- The weights of the blocks. -/
def Blocks.par (Q : Blocks) : Par where
  bg l := Q.bg (ix2 0 l)
  wa e d := Q.wa (ix2 e d)
  wb e d := Q.wb (ix2 e d)
  wo e d := Q.wo (ix2 e d)
  gf l := Q.gf (ix2 0 l)
  wu d c := Q.wu ⟨c.val / 1024, by omega⟩ (ix2 d ⟨c.val % 1024, by omega⟩)
  cw k c := Q.cw k ⟨c.val / 1024, by omega⟩ (ix2 0 ⟨c.val % 1024, by omega⟩)
  cb c := Q.cb ⟨c.val / 1024, by omega⟩ (ix2 0 ⟨c.val % 1024, by omega⟩)
  wd c l := Q.wd ⟨c.val / 1024, by omega⟩ (ix2 ⟨c.val % 1024, by omega⟩ l)
  gp l := Q.gp (ix2 0 l)
  wg d l := Q.wg (ix2 d l)
  wp d l := Q.wp (ix2 d l)

/-- The token of row `r`. -/
def Blocks.tok (Q : Blocks) (r : Fin 256) : Tok where
  x l := Q.x (ix2 r l)
  ya l := Q.ya (ix2 r l)
  yb l := Q.yb (ix2 r l)
  g l := Q.g (ix2 r l)
  pe l := Q.pe (ix2 r l)

theorem Blocks.x1_apply (Q : Blocks) (r : Fin 256) (l : Fin 1024) : Q.x1 (ix2 r l) = Q.par.x1 (Q.tok r) l := by
  unfold Par.x1 Blocks.par Blocks.tok
  pointwise [Blocks.x1, k0_pay5, k0_pay4]

/-- Column `l` of block `j`. -/
def col (j : Fin 6) (l : Fin 1024) : Fin 6144 := ⟨1024 * j.val + l.val, by omega⟩

/-- Column `l` of block `j` of the gate half, or row `l` of block `j` of the down projection. -/
def col3 (j : Fin 3) (l : Fin 1024) : Fin 3072 := ⟨1024 * j.val + l.val, by omega⟩

theorem col_div (j : Fin 6) (l : Fin 1024) (h : (col j l).val / 1024 < 6) : (⟨(col j l).val / 1024, h⟩ : Fin 6) = j :=
  Fin.ext (by show (1024 * j.val + l.val) / 1024 = j.val; omega)

theorem col_mod (j : Fin 6) (l : Fin 1024) (h : (col j l).val % 1024 < 1024) : (⟨(col j l).val % 1024, h⟩ : Fin 1024) = l :=
  Fin.ext (by show (1024 * j.val + l.val) % 1024 = l.val; omega)

theorem col3_div (j : Fin 3) (l : Fin 1024) (h : (col3 j l).val / 1024 < 3) : (⟨(col3 j l).val / 1024, h⟩ : Fin 3) = j :=
  Fin.ext (by show (1024 * j.val + l.val) / 1024 = j.val; omega)

theorem col3_mod (j : Fin 3) (l : Fin 1024) (h : (col3 j l).val % 1024 < 1024) : (⟨(col3 j l).val % 1024, h⟩ : Fin 1024) = l :=
  Fin.ext (by show (1024 * j.val + l.val) % 1024 = l.val; omega)

theorem col_surj (c : Fin 6144) : col ⟨c.val / 1024, by omega⟩ ⟨c.val % 1024, by omega⟩ = c :=
  Fin.ext (by show 1024 * (c.val / 1024) + c.val % 1024 = c.val; omega)

theorem Blocks.up_apply (Q : Blocks) (j : Fin 6) (r : Fin 256) (l : Fin 1024) :
    Q.up j (ix2 r l) = Q.par.up (Q.tok r) (col j l) := by
  unfold Blocks.up Par.up
  rw [pay9_apply]
  refine Finset.sum_congr rfl fun d _ => ?_
  rw [rms_apply]
  simp only [Blocks.x1_apply]
  show _ = _ * Q.wu ⟨(col j l).val / 1024, _⟩ (ix2 d ⟨(col j l).val % 1024, _⟩)
  rw [col_div, col_mod]
  rfl

/-- The projection of the token one before row `r`: the first row's is the carried one. -/
def Blocks.prev1 (Q : Blocks) (r : Fin 256) (c : Fin 6144) : EReal :=
  if h : r.val < 1 then Q.hd 0 ⟨c.val / 1024, by omega⟩ (ix4 0 0 ⟨r.val, by omega⟩ ⟨c.val % 1024, by omega⟩)
  else Q.par.up (Q.tok ⟨r.val - 1, by omega⟩) c

/-- The projection of the token two before row `r`: the first two rows' are carried ones. -/
def Blocks.prev2 (Q : Blocks) (r : Fin 256) (c : Fin 6144) : EReal :=
  if h : r.val < 2 then Q.hd 1 ⟨c.val / 1024, by omega⟩ (ix4 0 0 ⟨r.val, by omega⟩ ⟨c.val % 1024, by omega⟩)
  else Q.par.up (Q.tok ⟨r.val - 2, by omega⟩) c

theorem Blocks.moved_one_apply (Q : Blocks) (j : Fin 6) (r : Fin 256) (l : Fin 1024) :
    moved 1#32 (Q.up j) (Q.hd 0 j) (ix2 r l) = Q.prev1 r (col j l) := by
  rw [moved_one]
  unfold Blocks.prev1
  simp only [Blocks.up_apply, col_div, col_mod]

theorem Blocks.moved_two_apply (Q : Blocks) (j : Fin 6) (r : Fin 256) (l : Fin 1024) :
    moved 2#32 (Q.up j) (Q.hd 1 j) (ix2 r l) = Q.prev2 r (col j l) := by
  rw [moved_two]
  unfold Blocks.prev2
  simp only [Blocks.up_apply, col_div, col_mod]

theorem Blocks.cv_apply (Q : Blocks) (j : Fin 6) (r : Fin 256) (l : Fin 1024) :
    Q.cv j (ix2 r l) = Q.par.conv (Q.par.up (Q.tok r)) (Q.prev1 r) (Q.prev2 r) (col j l) := by
  unfold Blocks.cv
  rw [conv_apply, Blocks.moved_one_apply, Blocks.moved_two_apply, Blocks.up_apply]
  unfold Par.conv
  simp only [Blocks.par, col_div, col_mod]

theorem gelu_apply (g : FVec Ideal S256x1024 .f32) (r : Fin 256) (l : Fin 1024) : gelu g (ix2 r l) = gk (g (ix2 r l)) := by
  unfold gk
  pointwise [gelu]

/-- The activations of row `r`. -/
def Blocks.act (Q : Blocks) (r : Fin 256) : Fin 3072 → EReal := Q.par.act (Q.par.up (Q.tok r)) (Q.prev1 r) (Q.prev2 r)

theorem Blocks.dn_apply (Q : Blocks) (j : Fin 3) (g v : Fin 6) (hg : g.val = j.val) (hv : v.val = 3 + j.val) (r : Fin 256) (l : Fin 1024) :
    Q.dn j g v (ix2 r l) = ∑ d : Fin 1024, Q.act r (col3 j d) * Q.par.wd (col3 j d) l := by
  unfold Blocks.dn
  rw [down_apply]
  refine Finset.sum_congr rfl fun d _ => ?_
  rw [mulf_apply, gelu_apply, Blocks.cv_apply, Blocks.cv_apply]
  have e1 : col g d = ⟨(col3 j d).val, by omega⟩ := Fin.ext (by show 1024 * g.val + d.val = 1024 * j.val + d.val; omega)
  have e2 : col v d = ⟨3072 + (col3 j d).val, by omega⟩ := Fin.ext (by show 1024 * v.val + d.val = 3072 + (1024 * j.val + d.val); omega)
  rw [e1, e2]
  show _ = _ * Q.wd ⟨(col3 j d).val / 1024, _⟩ (ix2 ⟨(col3 j d).val % 1024, _⟩ l)
  rw [col3_div, col3_mod]
  rfl

/-- A sum over the 3072 rows is three sums over 1024. -/
theorem sum_blocks (f : Fin 3072 → EReal) :
    ∑ c, f c = (∑ d, f (col3 0 d)) + (∑ d, f (col3 1 d)) + ∑ d, f (col3 2 d) := by
  have h := Fintype.sum_equiv (finProdFinEquiv (m := 3) (n := 1024)).symm f (fun p => f (col3 p.1 p.2)) (fun c => by
    refine congrArg f (Fin.ext ?_)
    show c.val = 1024 * (c.val / 1024) + c.val % 1024
    omega)
  rw [h, Fintype.sum_prod_type, Fin.sum_univ_three]

theorem Blocks.x2_apply (Q : Blocks) (r : Fin 256) (l : Fin 1024) : Q.x2 (ix2 r l) = Q.par.x2 (Q.tok r) (Q.act r) l := by
  unfold Blocks.x2 Par.x2
  rw [addf_apply, addf_apply, addf_apply, addf_apply, Blocks.dn_apply Q 0 0 3 rfl rfl, Blocks.dn_apply Q 1 1 4 rfl rfl,
    Blocks.dn_apply Q 2 2 5 rfl rfl, Blocks.x1_apply, sum_blocks]
  have h0 : k0_pay8 (F := Ideal) (ix2 r l) = 0 := by pointwise [k0_pay8]
  rw [h0]
  show _ + (0 + _ + _ + _) = _
  rw [zero_add]

/-- The block at row `r`. -/
theorem Blocks.y_apply (Q : Blocks) (r : Fin 256) (l : Fin 1024) : Q.y (ix2 r l) = Q.par.y (Q.tok r) (Q.act r) l := by
  unfold Blocks.y Par.y
  rw [pay1_apply]
  simp only [rms_apply, Blocks.x2_apply]
  rfl

end Cert.FfnIdeal.Block
-- ==== Proof.FfnPay.lean ====
module

public import proofs.«01_k».proof.Proof.FfnTile

/-!
The kernel's partial terms are the block's functions.
-/

@[expose] public section

set_option maxRecDepth 16384

noncomputable section

namespace Cert.FfnIdeal.Block

open Idealize.ShloMosaic Idealize.ShloMosaic.TcCoe Idealize.SL.Sem
open Cert.FfnIdeal Cert.FfnIdeal.Gen

variable (H : FVec Ideal S256x1024 .bf16) (w : Vec Ideal S1024x1024 .bf16) (u : FVec Ideal S256x1024 .f32)
variable (b w2 w1 w0 : Vec Ideal S1x1024 .f32) (h1 h2 : Vec Ideal S1x1x8x1024 .f32)
variable (a g v p q : FVec Ideal S256x1024 .f32)

theorem up_three : k0_pay10 H w = k0_pay9 H w := rfl
theorem up_one : k0_pay11 H w = k0_pay9 H w := rfl
theorem up_four : k0_pay12 H w = k0_pay9 H w := rfl
theorem up_two : k0_pay29 H w = k0_pay9 H w := rfl
theorem up_five : k0_pay30 H w = k0_pay9 H w := rfl

theorem norm_first (s : FVec Ideal S256x1024 .f32) (x : Vec Ideal S256x1024 .f32) (o : Vec Ideal S1024x1024 .bf16) :
    k0_pay6 s x o b = rms (k0_pay5 s x o) b := rfl

theorem gate_zero : k0_pay19 k0_pay7 (k0_pay9 H w) (k0_pay14 H k0_pay7 w b w2 h1 w1) h2 w0
    = gelu (conv (k0_pay9 H w) b w2 w1 w0 h1 h2) := rfl
theorem value_zero : k0_pay25 k0_pay7 u (k0_pay20 b) (k0_pay21 u w2) h1 w1 h2 w0 = conv u b w2 w1 w0 h1 h2 := rfl
theorem gate_one : k0_pay38 k0_pay7 u (k0_pay31 u b w2) (k0_pay33 k0_pay7 u h1) (k0_pay34 w1) h2 w0
    = gelu (conv u b w2 w1 w0 h1 h2) := rfl
theorem gate_two : k0_pay54 k0_pay7 u (k0_pay49 k0_pay7 u b w2 h1 w1) h2 w0 = gelu (conv u b w2 w1 w0 h1 h2) := rfl
theorem value_two : k0_pay60 k0_pay7 u (k0_pay55 b) (k0_pay56 u w2) h1 w1 h2 w0 = conv u b w2 w1 w0 h1 h2 := rfl
theorem down_zero : k0_pay28 a g v w = addf a (down (mulf g v) w) := rfl
theorem down_one (d : Vec Ideal S1024x1024 .bf16) : k0_pay47 a g (k0_pay41 k0_pay7 u (k0_pay39 b) w2 h1 w1) (k0_pay44 k0_pay7 u h2) (k0_pay45 w0) d
    = addf a (down (mulf g (conv u b w2 w1 w0 h1 h2)) d) := rfl
theorem down_two : k0_pay64 p a g v w = addf p (addf a (down (mulf g v) w)) := rfl
theorem norm_second : k0_pay65 p a g v w b = rms (k0_pay64 p a g v w) b := rfl

/-- The result the kernel's body states is the block's. -/
theorem y_pay (x : Vec Ideal S256x1024 .f32) (ya : Vec Ideal S256x1024 .bf16) (yb g : Vec Ideal S256x2048 .bf16) (pe : Vec Ideal S256x256 .f32)
    (bg : Vec Ideal S1x2048 .f32) (wa wo wg : Vec Ideal S1024x1024 .bf16) (wb : Vec Ideal S2048x1024 .bf16) (gf gp : Vec Ideal S1x1024 .f32)
    (wp : Vec Ideal S256x1024 .bf16) (u0 u1 u2 u3 u4 u5 d0 d1 d2 : Vec Ideal S1024x1024 .bf16)
    (w00 w01 w02 w03 w04 w05 w10 w11 w12 w13 w14 w15 w20 w21 w22 w23 w24 w25 b0 b1 b2 b3 b4 b5 : Vec Ideal S1x1024 .f32)
    (h00 h01 h02 h03 h04 h05 h10 h11 h12 h13 h14 h15 : Vec Ideal S1x1x8x1024 .f32) :
    k0_pay1 (k0_pay64 (k0_pay5 (k0_pay4 g bg ya wa yb wb) x wo) (k0_pay47
        (k0_pay28 k0_pay8 (k0_pay19 k0_pay7 (k0_pay9 (k0_pay6 (k0_pay4 g bg ya wa yb wb) x wo gf) u0) (k0_pay14 (k0_pay6 (k0_pay4 g bg ya wa yb wb) x wo gf) k0_pay7 u0 b0 w20 h00 w10) h10 w00)
          (k0_pay25 k0_pay7 (k0_pay10 (k0_pay6 (k0_pay4 g bg ya wa yb wb) x wo gf) u3) (k0_pay20 b3) (k0_pay21 (k0_pay10 (k0_pay6 (k0_pay4 g bg ya wa yb wb) x wo gf) u3) w23) h03 w13 h13 w03) d0)
        (k0_pay38 k0_pay7 (k0_pay11 (k0_pay6 (k0_pay4 g bg ya wa yb wb) x wo gf) u1) (k0_pay31 (k0_pay11 (k0_pay6 (k0_pay4 g bg ya wa yb wb) x wo gf) u1) b1 w21) (k0_pay33 k0_pay7 (k0_pay11 (k0_pay6 (k0_pay4 g bg ya wa yb wb) x wo gf) u1) h01) (k0_pay34 w11) h11 w01)
        (k0_pay41 k0_pay7 (k0_pay12 (k0_pay6 (k0_pay4 g bg ya wa yb wb) x wo gf) u4) (k0_pay39 b4) w24 h04 w14) (k0_pay44 k0_pay7 (k0_pay12 (k0_pay6 (k0_pay4 g bg ya wa yb wb) x wo gf) u4) h14) (k0_pay45 w04) d1)
      (k0_pay54 k0_pay7 (k0_pay29 (k0_pay6 (k0_pay4 g bg ya wa yb wb) x wo gf) u2) (k0_pay49 k0_pay7 (k0_pay29 (k0_pay6 (k0_pay4 g bg ya wa yb wb) x wo gf) u2) b2 w22 h02 w12) h12 w02)
      (k0_pay60 k0_pay7 (k0_pay30 (k0_pay6 (k0_pay4 g bg ya wa yb wb) x wo gf) u5) (k0_pay55 b5) (k0_pay56 (k0_pay30 (k0_pay6 (k0_pay4 g bg ya wa yb wb) x wo gf) u5) w25) h05 w15 h15 w05) d2)
      (k0_pay65 (k0_pay5 (k0_pay4 g bg ya wa yb wb) x wo) (k0_pay47
        (k0_pay28 k0_pay8 (k0_pay19 k0_pay7 (k0_pay9 (k0_pay6 (k0_pay4 g bg ya wa yb wb) x wo gf) u0) (k0_pay14 (k0_pay6 (k0_pay4 g bg ya wa yb wb) x wo gf) k0_pay7 u0 b0 w20 h00 w10) h10 w00)
          (k0_pay25 k0_pay7 (k0_pay10 (k0_pay6 (k0_pay4 g bg ya wa yb wb) x wo gf) u3) (k0_pay20 b3) (k0_pay21 (k0_pay10 (k0_pay6 (k0_pay4 g bg ya wa yb wb) x wo gf) u3) w23) h03 w13 h13 w03) d0)
        (k0_pay38 k0_pay7 (k0_pay11 (k0_pay6 (k0_pay4 g bg ya wa yb wb) x wo gf) u1) (k0_pay31 (k0_pay11 (k0_pay6 (k0_pay4 g bg ya wa yb wb) x wo gf) u1) b1 w21) (k0_pay33 k0_pay7 (k0_pay11 (k0_pay6 (k0_pay4 g bg ya wa yb wb) x wo gf) u1) h01) (k0_pay34 w11) h11 w01)
        (k0_pay41 k0_pay7 (k0_pay12 (k0_pay6 (k0_pay4 g bg ya wa yb wb) x wo gf) u4) (k0_pay39 b4) w24 h04 w14) (k0_pay44 k0_pay7 (k0_pay12 (k0_pay6 (k0_pay4 g bg ya wa yb wb) x wo gf) u4) h14) (k0_pay45 w04) d1)
      (k0_pay54 k0_pay7 (k0_pay29 (k0_pay6 (k0_pay4 g bg ya wa yb wb) x wo gf) u2) (k0_pay49 k0_pay7 (k0_pay29 (k0_pay6 (k0_pay4 g bg ya wa yb wb) x wo gf) u2) b2 w22 h02 w12) h12 w02)
      (k0_pay60 k0_pay7 (k0_pay30 (k0_pay6 (k0_pay4 g bg ya wa yb wb) x wo gf) u5) (k0_pay55 b5) (k0_pay56 (k0_pay30 (k0_pay6 (k0_pay4 g bg ya wa yb wb) x wo gf) u5) w25) h05 w15 h15 w05) d2 gp) wg pe wp
      = (Blocks.mk x ya yb g pe bg wa wb wo gf ![u0, u1, u2, u3, u4, u5] ![![w00, w01, w02, w03, w04, w05], ![w10, w11, w12, w13, w14, w15], ![w20, w21, w22, w23, w24, w25]] ![b0, b1, b2, b3, b4, b5]
          ![d0, d1, d2] gp wg wp ![![h00, h01, h02, h03, h04, h05], ![h10, h11, h12, h13, h14, h15]]).y := by
  simp only [up_one, up_two, up_three, up_four, up_five, norm_first]
  simp only [gate_zero, value_zero, gate_one, gate_two, value_two, down_zero, down_one, norm_second]
  simp only [down_two]
  rfl

theorem carry_one_zero : k0_pay16 (k0_pay15 H w) = carried 1#32 (k0_pay9 H w) := rfl
theorem carry_two_zero : k0_pay18 u = carried 2#32 u := rfl
theorem carry_one_three : k0_pay23 u = carried 1#32 u := rfl
theorem carry_two_three : k0_pay27 (k0_pay26 u) = carried 2#32 u := rfl
theorem carry_one_one : k0_pay35 (k0_pay32 u) = carried 1#32 u := rfl
theorem carry_two_one : k0_pay37 u = carried 2#32 u := rfl
theorem carry_one_four : k0_pay42 u = carried 1#32 u := rfl
theorem carry_two_four : k0_pay46 (k0_pay43 u) = carried 2#32 u := rfl
theorem carry_one_two : k0_pay51 (k0_pay50 u) = carried 1#32 u := rfl
theorem carry_two_two : k0_pay53 u = carried 2#32 u := rfl
theorem carry_one_five : k0_pay58 u = carried 1#32 u := rfl
theorem carry_two_five : k0_pay62 (k0_pay61 u) = carried 2#32 u := rfl

/-- The rows the kernel's body states are the carried ones of the block's projections. -/
theorem carry_pay (x : Vec Ideal S256x1024 .f32) (ya : Vec Ideal S256x1024 .bf16) (yb g : Vec Ideal S256x2048 .bf16) (pe : Vec Ideal S256x256 .f32)
    (bg : Vec Ideal S1x2048 .f32) (wa wo wg : Vec Ideal S1024x1024 .bf16) (wb : Vec Ideal S2048x1024 .bf16) (gf gp : Vec Ideal S1x1024 .f32)
    (wp : Vec Ideal S256x1024 .bf16) (u0 u1 u2 u3 u4 u5 : Vec Ideal S1024x1024 .bf16) (cw : Fin 3 → Fin 6 → Vec Ideal S1x1024 .f32)
    (cb : Fin 6 → Vec Ideal S1x1024 .f32) (wd : Fin 3 → Vec Ideal S1024x1024 .bf16) (hd : Fin 2 → Fin 6 → Vec Ideal S1x1x8x1024 .f32) :
    ![![k0_pay16 (k0_pay15 (k0_pay6 (k0_pay4 g bg ya wa yb wb) x wo gf) u0), k0_pay35 (k0_pay32 (k0_pay11 (k0_pay6 (k0_pay4 g bg ya wa yb wb) x wo gf) u1)), k0_pay51 (k0_pay50 (k0_pay29 (k0_pay6 (k0_pay4 g bg ya wa yb wb) x wo gf) u2)), k0_pay23 (k0_pay10 (k0_pay6 (k0_pay4 g bg ya wa yb wb) x wo gf) u3), k0_pay42 (k0_pay12 (k0_pay6 (k0_pay4 g bg ya wa yb wb) x wo gf) u4), k0_pay58 (k0_pay30 (k0_pay6 (k0_pay4 g bg ya wa yb wb) x wo gf) u5)],
      ![k0_pay18 (k0_pay9 (k0_pay6 (k0_pay4 g bg ya wa yb wb) x wo gf) u0), k0_pay37 (k0_pay11 (k0_pay6 (k0_pay4 g bg ya wa yb wb) x wo gf) u1), k0_pay53 (k0_pay29 (k0_pay6 (k0_pay4 g bg ya wa yb wb) x wo gf) u2), k0_pay27 (k0_pay26 (k0_pay10 (k0_pay6 (k0_pay4 g bg ya wa yb wb) x wo gf) u3)), k0_pay46 (k0_pay43 (k0_pay12 (k0_pay6 (k0_pay4 g bg ya wa yb wb) x wo gf) u4)), k0_pay62 (k0_pay61 (k0_pay30 (k0_pay6 (k0_pay4 g bg ya wa yb wb) x wo gf) u5))]]
      = ![![carried 1#32 ((Blocks.mk x ya yb g pe bg wa wb wo gf ![u0, u1, u2, u3, u4, u5] cw cb wd gp wg wp hd).up 0), carried 1#32 ((Blocks.mk x ya yb g pe bg wa wb wo gf ![u0, u1, u2, u3, u4, u5] cw cb wd gp wg wp hd).up 1), carried 1#32 ((Blocks.mk x ya yb g pe bg wa wb wo gf ![u0, u1, u2, u3, u4, u5] cw cb wd gp wg wp hd).up 2), carried 1#32 ((Blocks.mk x ya yb g pe bg wa wb wo gf ![u0, u1, u2, u3, u4, u5] cw cb wd gp wg wp hd).up 3), carried 1#32 ((Blocks.mk x ya yb g pe bg wa wb wo gf ![u0, u1, u2, u3, u4, u5] cw cb wd gp wg wp hd).up 4), carried 1#32 ((Blocks.mk x ya yb g pe bg wa wb wo gf ![u0, u1, u2, u3, u4, u5] cw cb wd gp wg wp hd).up 5)],
      ![carried 2#32 ((Blocks.mk x ya yb g pe bg wa wb wo gf ![u0, u1, u2, u3, u4, u5] cw cb wd gp wg wp hd).up 0), carried 2#32 ((Blocks.mk x ya yb g pe bg wa wb wo gf ![u0, u1, u2, u3, u4, u5] cw cb wd gp wg wp hd).up 1), carried 2#32 ((Blocks.mk x ya yb g pe bg wa wb wo gf ![u0, u1, u2, u3, u4, u5] cw cb wd gp wg wp hd).up 2), carried 2#32 ((Blocks.mk x ya yb g pe bg wa wb wo gf ![u0, u1, u2, u3, u4, u5] cw cb wd gp wg wp hd).up 3), carried 2#32 ((Blocks.mk x ya yb g pe bg wa wb wo gf ![u0, u1, u2, u3, u4, u5] cw cb wd gp wg wp hd).up 4), carried 2#32 ((Blocks.mk x ya yb g pe bg wa wb wo gf ![u0, u1, u2, u3, u4, u5] cw cb wd gp wg wp hd).up 5)]] := by
  simp only [up_one, up_two, up_three, up_four, up_five, norm_first, carry_one_zero, carry_two_zero, carry_one_three, carry_two_three, carry_one_one, carry_two_one, carry_one_four, carry_two_four, carry_one_two, carry_two_two, carry_one_five, carry_two_five]
  rfl
-- ==== Proof.FfnCase.lean ====
module

public import proofs.«01_k».proof.Proof.Gen.FfnIdeal.Frame
public import proofs.«01_k».proof.Proof.FfnPay
public import Idealize.ShloMosaic.Lib.Pipeline.ReadBack
public import Idealize.ShloMosaic.Lib.Pipeline.ValueKit

/-!
What a grid point of the feed-forward call leaves, as the block's result of what it reads.
-/

@[expose] public section

set_option maxRecDepth 16384

noncomputable section

namespace Cert.FfnIdeal.Block

open Idealize.ShloMosaic Idealize.ShloMosaic.TcCoe Idealize.SL.Sem
open Cert.FfnIdeal Cert.FfnIdeal.Gen

variable (m : (ℓ : Loc nD τ sig) → Buf (Elt Ideal) ℓ) (c : Dev nD)

/-- The up projection's blocks of columns. -/
def upOf (X : Vec Ideal S1024x6144 .bf16) : Fin 6 → Vec Ideal S1024x1024 .bf16 :=
  ![View.ld X (Rect.unit ![0, 0] ![1024, 1024] inb_S1024x6144_S1024x1024_0_0), View.ld X (Rect.unit ![0, 1024] ![1024, 1024] inb_S1024x6144_S1024x1024_0_1024), View.ld X (Rect.unit ![0, 2048] ![1024, 1024] inb_S1024x6144_S1024x1024_0_2048), View.ld X (Rect.unit ![0, 3072] ![1024, 1024] inb_S1024x6144_S1024x1024_0_3072), View.ld X (Rect.unit ![0, 4096] ![1024, 1024] inb_S1024x6144_S1024x1024_0_4096), View.ld X (Rect.unit ![0, 5120] ![1024, 1024] inb_S1024x6144_S1024x1024_0_5120)]

/-- The taps' blocks. -/
def tapOf (X : Vec Ideal S8x6144 .f32) : Fin 3 → Fin 6 → Vec Ideal S1x1024 .f32 :=
  ![![View.ld X (Rect.unit ![0, 0] ![1, 1024] inb_S8x6144_S1x1024_0_0), View.ld X (Rect.unit ![0, 1024] ![1, 1024] inb_S8x6144_S1x1024_0_1024), View.ld X (Rect.unit ![0, 2048] ![1, 1024] inb_S8x6144_S1x1024_0_2048), View.ld X (Rect.unit ![0, 3072] ![1, 1024] inb_S8x6144_S1x1024_0_3072), View.ld X (Rect.unit ![0, 4096] ![1, 1024] inb_S8x6144_S1x1024_0_4096), View.ld X (Rect.unit ![0, 5120] ![1, 1024] inb_S8x6144_S1x1024_0_5120)],
    ![View.ld X (Rect.unit ![1, 0] ![1, 1024] inb_S8x6144_S1x1024_1_0), View.ld X (Rect.unit ![1, 1024] ![1, 1024] inb_S8x6144_S1x1024_1_1024), View.ld X (Rect.unit ![1, 2048] ![1, 1024] inb_S8x6144_S1x1024_1_2048), View.ld X (Rect.unit ![1, 3072] ![1, 1024] inb_S8x6144_S1x1024_1_3072), View.ld X (Rect.unit ![1, 4096] ![1, 1024] inb_S8x6144_S1x1024_1_4096), View.ld X (Rect.unit ![1, 5120] ![1, 1024] inb_S8x6144_S1x1024_1_5120)],
    ![View.ld X (Rect.unit ![2, 0] ![1, 1024] inb_S8x6144_S1x1024_2_0), View.ld X (Rect.unit ![2, 1024] ![1, 1024] inb_S8x6144_S1x1024_2_1024), View.ld X (Rect.unit ![2, 2048] ![1, 1024] inb_S8x6144_S1x1024_2_2048), View.ld X (Rect.unit ![2, 3072] ![1, 1024] inb_S8x6144_S1x1024_2_3072), View.ld X (Rect.unit ![2, 4096] ![1, 1024] inb_S8x6144_S1x1024_2_4096), View.ld X (Rect.unit ![2, 5120] ![1, 1024] inb_S8x6144_S1x1024_2_5120)]]

/-- The biases' blocks. -/
def biasOf (X : Vec Ideal S1x6144 .f32) : Fin 6 → Vec Ideal S1x1024 .f32 :=
  ![View.ld X (Rect.unit ![0, 0] ![1, 1024] inb_S1x6144_S1x1024_0_0), View.ld X (Rect.unit ![0, 1024] ![1, 1024] inb_S1x6144_S1x1024_0_1024), View.ld X (Rect.unit ![0, 2048] ![1, 1024] inb_S1x6144_S1x1024_0_2048), View.ld X (Rect.unit ![0, 3072] ![1, 1024] inb_S1x6144_S1x1024_0_3072), View.ld X (Rect.unit ![0, 4096] ![1, 1024] inb_S1x6144_S1x1024_0_4096), View.ld X (Rect.unit ![0, 5120] ![1, 1024] inb_S1x6144_S1x1024_0_5120)]

/-- The down projection's blocks of rows. -/
def downOf (X : Vec Ideal S3072x1024 .bf16) : Fin 3 → Vec Ideal S1024x1024 .bf16 :=
  ![View.ld X (Rect.unit ![0, 0] ![1024, 1024] inb_S3072x1024_S1024x1024_0_0), View.ld X (Rect.unit ![1024, 0] ![1024, 1024] inb_S3072x1024_S1024x1024_1024_0), View.ld X (Rect.unit ![2048, 0] ![1024, 1024] inb_S3072x1024_S1024x1024_2048_0)]

/-- The carried rows' blocks. -/
def headOf (S : Vec Ideal S2x1x8x6144 .f32) : Fin 2 → Fin 6 → Vec Ideal S1x1x8x1024 .f32 :=
  ![![View.ld S (Rect.unit ![0, 0, 0, 0] ![1, 1, 8, 1024] inb_S2x1x8x6144_S1x1x8x1024_0_0_0_0), View.ld S (Rect.unit ![0, 0, 0, 1024] ![1, 1, 8, 1024] inb_S2x1x8x6144_S1x1x8x1024_0_0_0_1024), View.ld S (Rect.unit ![0, 0, 0, 2048] ![1, 1, 8, 1024] inb_S2x1x8x6144_S1x1x8x1024_0_0_0_2048), View.ld S (Rect.unit ![0, 0, 0, 3072] ![1, 1, 8, 1024] inb_S2x1x8x6144_S1x1x8x1024_0_0_0_3072), View.ld S (Rect.unit ![0, 0, 0, 4096] ![1, 1, 8, 1024] inb_S2x1x8x6144_S1x1x8x1024_0_0_0_4096), View.ld S (Rect.unit ![0, 0, 0, 5120] ![1, 1, 8, 1024] inb_S2x1x8x6144_S1x1x8x1024_0_0_0_5120)],
    ![View.ld S (Rect.unit ![1, 0, 0, 0] ![1, 1, 8, 1024] inb_S2x1x8x6144_S1x1x8x1024_1_0_0_0), View.ld S (Rect.unit ![1, 0, 0, 1024] ![1, 1, 8, 1024] inb_S2x1x8x6144_S1x1x8x1024_1_0_0_1024), View.ld S (Rect.unit ![1, 0, 0, 2048] ![1, 1, 8, 1024] inb_S2x1x8x6144_S1x1x8x1024_1_0_0_2048), View.ld S (Rect.unit ![1, 0, 0, 3072] ![1, 1, 8, 1024] inb_S2x1x8x6144_S1x1x8x1024_1_0_0_3072), View.ld S (Rect.unit ![1, 0, 0, 4096] ![1, 1, 8, 1024] inb_S2x1x8x6144_S1x1x8x1024_1_0_0_4096), View.ld S (Rect.unit ![1, 0, 0, 5120] ![1, 1, 8, 1024] inb_S2x1x8x6144_S1x1x8x1024_1_0_0_5120)]]

/-- What point `t` reads, with the carried rows `hd`. -/
def blocks (t : Fin cfg0.N) (hd : Fin 2 → Fin 6 → Vec Ideal S1x1x8x1024 .f32) : Blocks where
  x := iblk m c 0 t
  ya := iblk m c 1 t
  yb := iblk m c 2 t
  g := iblk m c 3 t
  pe := iblk m c 4 t
  bg := iblk m c 6 t
  wa := iblk m c 7 t
  wb := iblk m c 8 t
  wo := iblk m c 9 t
  gf := iblk m c 10 t
  wu := upOf (iblk m c 11 t)
  cw := tapOf (iblk m c 12 t)
  cb := biasOf (iblk m c 13 t)
  wd := downOf (iblk m c 14 t)
  gp := iblk m c 15 t
  wg := iblk m c 16 t
  wp := iblk m c 17 t
  hd := hd

/-- The first of the carried rows as a sequence's first point stores them. -/
def storeOne (X : Vec Ideal S1x16x6144 .f32) : View.Piece (Elt Ideal) S2x1x8x6144 .f32 :=
  ⟨Rect.unit ![0, 0, 0, 0] ![1, 1, 8, 6144] inb_S2x1x8x6144_S1x1x8x6144_0_0_0_0,
    k0_pay2 (View.ld X (Rect.unit ![0, 0, 0] ![1, 8, 6144] inb_S1x16x6144_S1x8x6144_0_0_0))⟩

/-- The second. -/
def storeTwo (X : Vec Ideal S1x16x6144 .f32) : View.Piece (Elt Ideal) S2x1x8x6144 .f32 :=
  ⟨Rect.unit ![1, 0, 0, 0] ![1, 1, 8, 6144] inb_S2x1x8x6144_S1x1x8x6144_1_0_0_0,
    k0_pay3 (View.ld X (Rect.unit ![0, 8, 0] ![1, 8, 6144] inb_S1x16x6144_S1x8x6144_0_8_0))⟩

/-- What a load of `r` reads after the stores `L`. -/
abbrev reread (L : List (View.Piece (Elt Ideal) S2x1x8x6144 .f32)) (r : Rect S2x1x8x6144) : r.shape.Idx → Elt Ideal .f32 :=
  (View.whole cc0_scratch0).readCov L r.toLoadRect

/-- The carried rows of a sequence's first point. -/
def headFirst (X : Vec Ideal S1x16x6144 .f32) : Fin 2 → Fin 6 → Vec Ideal S1x1x8x1024 .f32 :=
  ![![reread [storeOne X] (Rect.unit ![0, 0, 0, 0] ![1, 1, 8, 1024] inb_S2x1x8x6144_S1x1x8x1024_0_0_0_0), reread [storeOne X] (Rect.unit ![0, 0, 0, 1024] ![1, 1, 8, 1024] inb_S2x1x8x6144_S1x1x8x1024_0_0_0_1024), reread [storeOne X] (Rect.unit ![0, 0, 0, 2048] ![1, 1, 8, 1024] inb_S2x1x8x6144_S1x1x8x1024_0_0_0_2048), reread [storeOne X] (Rect.unit ![0, 0, 0, 3072] ![1, 1, 8, 1024] inb_S2x1x8x6144_S1x1x8x1024_0_0_0_3072), reread [storeOne X] (Rect.unit ![0, 0, 0, 4096] ![1, 1, 8, 1024] inb_S2x1x8x6144_S1x1x8x1024_0_0_0_4096), reread [storeOne X] (Rect.unit ![0, 0, 0, 5120] ![1, 1, 8, 1024] inb_S2x1x8x6144_S1x1x8x1024_0_0_0_5120)],
    ![reread [storeTwo X, storeOne X] (Rect.unit ![1, 0, 0, 0] ![1, 1, 8, 1024] inb_S2x1x8x6144_S1x1x8x1024_1_0_0_0), reread [storeTwo X, storeOne X] (Rect.unit ![1, 0, 0, 1024] ![1, 1, 8, 1024] inb_S2x1x8x6144_S1x1x8x1024_1_0_0_1024), reread [storeTwo X, storeOne X] (Rect.unit ![1, 0, 0, 2048] ![1, 1, 8, 1024] inb_S2x1x8x6144_S1x1x8x1024_1_0_0_2048), reread [storeTwo X, storeOne X] (Rect.unit ![1, 0, 0, 3072] ![1, 1, 8, 1024] inb_S2x1x8x6144_S1x1x8x1024_1_0_0_3072), reread [storeTwo X, storeOne X] (Rect.unit ![1, 0, 0, 4096] ![1, 1, 8, 1024] inb_S2x1x8x6144_S1x1x8x1024_1_0_0_4096), reread [storeTwo X, storeOne X] (Rect.unit ![1, 0, 0, 5120] ![1, 1, 8, 1024] inb_S2x1x8x6144_S1x1x8x1024_1_0_0_5120)]]

/-- What the point before left in the carried rows. -/
def left (t : Fin cfg0.N) : Vec Ideal S2x1x8x6144 .f32 := (outsAt0 m c (t.val - 1) (lt_of_le_of_lt (Nat.sub_le _ _) t.isLt)).2.2

theorem y_B (t : Fin cfg0.N) (h0 : ¬t.val % 8 = 0) (h1 : ¬t.val % 8 = 7) :
    (outsAt0 m c t.val t.isLt).1 = (blocks m c t (headOf (left m c t))).y := by
  rw [outsAt0_B m c t h0 h1]
  dsimp only
  frame_out
  simp only [read_unread_whole]
  exact y_pay ..

theorem y_C (t : Fin cfg0.N) (h0 : ¬t.val % 8 = 0) (h1 : t.val % 8 = 7) :
    (outsAt0 m c t.val t.isLt).1 = (blocks m c t (headOf (left m c t))).y := by
  rw [outsAt0_C m c t h0 h1]
  dsimp only
  frame_out
  simp only [read_unread_whole]
  exact y_pay ..

theorem y_A (t : Fin cfg0.N) (h0 : t.val % 8 = 0) (h1 : ¬t.val % 8 = 7) :
    (outsAt0 m c t.val t.isLt).1 = (blocks m c t (headFirst (iblk m c 5 t))).y := by
  rw [outsAt0_A m c t h0 h1]
  dsimp only
  frame_open
  simp (disch := decide) only [↓ View.readCov_skip, ↓ View.readCov_cons_toLoadRect, ↓ View.readCov_fill]
  frame_out
  exact y_pay ..

/-- The carried rows after the twelve stores of a point. -/
theorem headOf_stores (p00 p01 p02 p03 p04 p05 p10 p11 p12 p13 p14 p15 : Vec Ideal S1x1x8x1024 .f32)
    (L : List (View.Piece (Elt Ideal) S2x1x8x6144 .f32)) :
    headOf (View.canon (⟨Rect.unit ![1, 0, 0, 5120] ![1, 1, 8, 1024] inb_S2x1x8x6144_S1x1x8x1024_1_0_0_5120, p15⟩ ::
      ⟨Rect.unit ![0, 0, 0, 5120] ![1, 1, 8, 1024] inb_S2x1x8x6144_S1x1x8x1024_0_0_0_5120, p05⟩ ::
      ⟨Rect.unit ![1, 0, 0, 2048] ![1, 1, 8, 1024] inb_S2x1x8x6144_S1x1x8x1024_1_0_0_2048, p12⟩ ::
      ⟨Rect.unit ![0, 0, 0, 2048] ![1, 1, 8, 1024] inb_S2x1x8x6144_S1x1x8x1024_0_0_0_2048, p02⟩ ::
      ⟨Rect.unit ![1, 0, 0, 4096] ![1, 1, 8, 1024] inb_S2x1x8x6144_S1x1x8x1024_1_0_0_4096, p14⟩ ::
      ⟨Rect.unit ![0, 0, 0, 4096] ![1, 1, 8, 1024] inb_S2x1x8x6144_S1x1x8x1024_0_0_0_4096, p04⟩ ::
      ⟨Rect.unit ![1, 0, 0, 1024] ![1, 1, 8, 1024] inb_S2x1x8x6144_S1x1x8x1024_1_0_0_1024, p11⟩ ::
      ⟨Rect.unit ![0, 0, 0, 1024] ![1, 1, 8, 1024] inb_S2x1x8x6144_S1x1x8x1024_0_0_0_1024, p01⟩ ::
      ⟨Rect.unit ![1, 0, 0, 3072] ![1, 1, 8, 1024] inb_S2x1x8x6144_S1x1x8x1024_1_0_0_3072, p13⟩ ::
      ⟨Rect.unit ![0, 0, 0, 3072] ![1, 1, 8, 1024] inb_S2x1x8x6144_S1x1x8x1024_0_0_0_3072, p03⟩ ::
      ⟨Rect.unit ![1, 0, 0, 0] ![1, 1, 8, 1024] inb_S2x1x8x6144_S1x1x8x1024_1_0_0_0, p10⟩ ::
      ⟨Rect.unit ![0, 0, 0, 0] ![1, 1, 8, 1024] inb_S2x1x8x6144_S1x1x8x1024_0_0_0_0, p00⟩ :: L))
      = ![![p00, p01, p02, p03, p04, p05],
      ![p10, p11, p12, p13, p14, p15]] := by
  have h (L : List (View.Piece (Elt Ideal) S2x1x8x6144 .f32)) (r : Rect S2x1x8x6144) : View.ld (View.canon L) r = reread L r :=
    (View.readCov_eq_canon' (View.whole cc0_scratch0) L r.toLoadRect).symm
  unfold headOf
  simp only [h]
  simp (disch := decide) only [↓ View.readCov_skip, ↓ View.readCov_cons_toLoadRect]

theorem head_B (t : Fin cfg0.N) (hd) (h0 : ¬t.val % 8 = 0) (h1 : ¬t.val % 8 = 7) :
    headOf (outsAt0 m c t.val t.isLt).2.2
      = ![![carried 1#32 ((blocks m c t hd).up 0), carried 1#32 ((blocks m c t hd).up 1), carried 1#32 ((blocks m c t hd).up 2), carried 1#32 ((blocks m c t hd).up 3), carried 1#32 ((blocks m c t hd).up 4), carried 1#32 ((blocks m c t hd).up 5)],
      ![carried 2#32 ((blocks m c t hd).up 0), carried 2#32 ((blocks m c t hd).up 1), carried 2#32 ((blocks m c t hd).up 2), carried 2#32 ((blocks m c t hd).up 3), carried 2#32 ((blocks m c t hd).up 4), carried 2#32 ((blocks m c t hd).up 5)]] := by
  rw [outsAt0_B m c t h0 h1]
  dsimp only
  frame_out
  exact (headOf_stores ..).trans (carry_pay ..)

theorem head_A (t : Fin cfg0.N) (hd) (h0 : t.val % 8 = 0) (h1 : ¬t.val % 8 = 7) :
    headOf (outsAt0 m c t.val t.isLt).2.2
      = ![![carried 1#32 ((blocks m c t hd).up 0), carried 1#32 ((blocks m c t hd).up 1), carried 1#32 ((blocks m c t hd).up 2), carried 1#32 ((blocks m c t hd).up 3), carried 1#32 ((blocks m c t hd).up 4), carried 1#32 ((blocks m c t hd).up 5)],
      ![carried 2#32 ((blocks m c t hd).up 0), carried 2#32 ((blocks m c t hd).up 1), carried 2#32 ((blocks m c t hd).up 2), carried 2#32 ((blocks m c t hd).up 3), carried 2#32 ((blocks m c t hd).up 4), carried 2#32 ((blocks m c t hd).up 5)]] := by
  rw [outsAt0_A m c t h0 h1]
  dsimp only
  frame_out
  exact (headOf_stores ..).trans (carry_pay ..)
-- ==== Proof.FfnRead.lean ====
module

public import proofs.«01_k».proof.Proof.FfnHost
public import proofs.«01_k».proof.Proof.FfnCase

/-!
What a grid point of the feed-forward call reads, at the call's arguments, and its result.
-/

@[expose] public section

set_option maxRecDepth 16384

noncomputable section

namespace Cert.FfnIdeal.Block

open Idealize.ShloMosaic Idealize.ShloMosaic.TcCoe Idealize.SL.Sem
open Cert.FfnIdeal Cert.FfnIdeal.Gen

variable (m : (ℓ : Loc nD τ sig) → Buf (Elt Ideal) ℓ) (c : Dev nD)

theorem upOf_apply (X : Vec Ideal S1024x6144 .bf16) (j : Fin 6) (i l : Fin 1024) : upOf X j (ix2 i l) = X (ix2 i (col j l)) := by
  fin_cases j <;>
    exact View.ld_unit_apply_of X _ _ _ _ (ix2 i (col _ l)) fun a => match a with
      | ⟨0, _⟩ => (Nat.zero_add _).symm
      | ⟨1, _⟩ => rfl

theorem tapOf_apply (X : Vec Ideal S8x6144 .f32) (k : Fin 3) (j : Fin 6) (l : Fin 1024) :
    tapOf X k j (ix2 0 l) = X (ix2 ⟨k.val, by omega⟩ (col j l)) := by
  fin_cases k <;> fin_cases j <;>
    exact View.ld_unit_apply_of X _ _ _ _ (ix2 _ (col _ l)) fun a => match a with
      | ⟨0, _⟩ => rfl
      | ⟨1, _⟩ => rfl

theorem biasOf_apply (X : Vec Ideal S1x6144 .f32) (j : Fin 6) (l : Fin 1024) : biasOf X j (ix2 0 l) = X (ix2 0 (col j l)) := by
  fin_cases j <;>
    exact View.ld_unit_apply_of X _ _ _ _ (ix2 _ (col _ l)) fun a => match a with
      | ⟨0, _⟩ => rfl
      | ⟨1, _⟩ => rfl

theorem downOf_apply (X : Vec Ideal S3072x1024 .bf16) (j : Fin 3) (i l : Fin 1024) : downOf X j (ix2 i l) = X (ix2 (col3 j i) l) := by
  fin_cases j <;>
    exact View.ld_unit_apply_of X _ _ _ _ (ix2 (col3 _ i) l) fun a => match a with
      | ⟨0, _⟩ => rfl
      | ⟨1, _⟩ => (Nat.zero_add _).symm

theorem col3_surj (c : Fin 3072) : col3 ⟨c.val / 1024, by omega⟩ ⟨c.val % 1024, by omega⟩ = c :=
  Fin.ext (by show 1024 * (c.val / 1024) + c.val % 1024 = c.val; omega)

/-- The arguments' weights, the convolution's halved on the values' columns. -/
def halved (P : Par) : Par := { P with cw := fun k j => P.cw k j * half j, cb := fun j => P.cb j * half j }

theorem par_bg (t : Fin cfg0.N) (hd) (l : Fin 2048) : (blocks m c t hd).bg (ix2 0 l) = (argsOf m c).bg (ix1 l) := by
  refine (read6 m c t 0 l).trans ?_
  rw [v6]
  generalize (argsOf m c).bg = X
  pointwise []

theorem par_gf (t : Fin cfg0.N) (hd) (l : Fin 1024) : (blocks m c t hd).gf (ix2 0 l) = (argsOf m c).gf (ix1 l) := by
  refine (read10 m c t 0 l).trans ?_
  rw [v10]
  generalize (argsOf m c).gf = X
  pointwise []

theorem par_gp (t : Fin cfg0.N) (hd) (l : Fin 1024) : (blocks m c t hd).gp (ix2 0 l) = (argsOf m c).gp (ix1 l) := by
  refine (read15 m c t 0 l).trans ?_
  rw [v18]
  generalize (argsOf m c).gp = X
  pointwise []

theorem par_wa (t : Fin cfg0.N) (hd) (i : Fin 1024) (l : Fin 1024) : (blocks m c t hd).wa (ix2 i l) = (argsOf m c).wa (ix2 i l) := by
  refine (read7 m c t i l).trans ?_
  rw [v7]
  rfl

theorem par_wb (t : Fin cfg0.N) (hd) (i : Fin 2048) (l : Fin 1024) : (blocks m c t hd).wb (ix2 i l) = (argsOf m c).wb (ix2 i l) := by
  refine (read8 m c t i l).trans ?_
  rw [v8]
  rfl

theorem par_wo (t : Fin cfg0.N) (hd) (i : Fin 1024) (l : Fin 1024) : (blocks m c t hd).wo (ix2 i l) = (argsOf m c).wo (ix2 i l) := by
  refine (read9 m c t i l).trans ?_
  rw [v9]
  rfl

theorem par_wg (t : Fin cfg0.N) (hd) (i : Fin 1024) (l : Fin 1024) : (blocks m c t hd).wg (ix2 i l) = (argsOf m c).wg (ix2 i l) := by
  refine (read16 m c t i l).trans ?_
  rw [v19]
  rfl

theorem par_wp (t : Fin cfg0.N) (hd) (i : Fin 256) (l : Fin 1024) : (blocks m c t hd).wp (ix2 i l) = (argsOf m c).wp (ix2 i l) := by
  refine (read17 m c t i l).trans ?_
  rw [v20]
  rfl

theorem par_wu (t : Fin cfg0.N) (hd) (d : Fin 1024) (j : Fin 6144) :
    (blocks m c t hd).wu ⟨j.val / 1024, by omega⟩ (ix2 d ⟨j.val % 1024, by omega⟩) = (argsOf m c).wu (ix2 d j) := by
  rw [show (blocks m c t hd).wu = upOf (iblk m c 11 t) from rfl, upOf_apply, col_surj]
  refine (read11 m c t d j).trans ?_
  rw [v11]
  rfl

theorem par_cw (t : Fin cfg0.N) (hd) (k : Fin 3) (j : Fin 6144) :
    (blocks m c t hd).cw k ⟨j.val / 1024, by omega⟩ (ix2 0 ⟨j.val % 1024, by omega⟩) = (argsOf m c).cw (ix2 k j) * half j := by
  rw [show (blocks m c t hd).cw = tapOf (iblk m c 12 t) from rfl, tapOf_apply, col_surj]
  refine (read12 m c t _ j).trans ?_
  rw [v14]
  exact taps_apply _ k j

theorem par_cb (t : Fin cfg0.N) (hd) (j : Fin 6144) :
    (blocks m c t hd).cb ⟨j.val / 1024, by omega⟩ (ix2 0 ⟨j.val % 1024, by omega⟩) = (argsOf m c).cb (ix1 j) * half j := by
  rw [show (blocks m c t hd).cb = biasOf (iblk m c 13 t) from rfl, biasOf_apply, col_surj]
  refine (read13 m c t 0 j).trans ?_
  rw [v16]
  generalize (argsOf m c).cb = X
  generalize he : halfRow = E
  pointwise []
  subst he
  rw [halfRow_apply]

theorem par_wd (t : Fin cfg0.N) (hd) (j : Fin 3072) (l : Fin 1024) :
    (blocks m c t hd).wd ⟨j.val / 1024, by omega⟩ (ix2 ⟨j.val % 1024, by omega⟩ l) = (argsOf m c).wd (ix2 j l) := by
  rw [show (blocks m c t hd).wd = downOf (iblk m c 14 t) from rfl, downOf_apply, col3_surj]
  refine (read14 m c t j l).trans ?_
  rw [v17]
  rfl

theorem par_eq {P Q : Par} (h0 : P.bg = Q.bg) (h1 : P.wa = Q.wa) (h2 : P.wb = Q.wb) (h3 : P.wo = Q.wo) (h4 : P.gf = Q.gf) (h5 : P.wu = Q.wu) (h6 : P.cw = Q.cw) (h7 : P.cb = Q.cb) (h8 : P.wd = Q.wd) (h9 : P.gp = Q.gp) (h10 : P.wg = Q.wg) (h11 : P.wp = Q.wp) : P = Q := by
  cases P
  cases Q
  cases h0
  cases h1
  cases h2
  cases h3
  cases h4
  cases h5
  cases h6
  cases h7
  cases h8
  cases h9
  cases h10
  cases h11
  rfl

theorem blocks_par (t : Fin cfg0.N) (hd) : (blocks m c t hd).par = halved (argsOf m c).par := by
  have e0 := par_bg m c t hd
  have e1 := par_wa m c t hd
  have e2 := par_wb m c t hd
  have e3 := par_wo m c t hd
  have e4 := par_gf m c t hd
  have e5 := par_wu m c t hd
  have e6 := par_cw m c t hd
  have e7 := par_cb m c t hd
  have e8 := par_wd m c t hd
  have e9 := par_gp m c t hd
  have e10 := par_wg m c t hd
  have e11 := par_wp m c t hd
  generalize blocks m c t hd = Q at *
  generalize argsOf m c = A at *
  exact par_eq (funext fun j => e0 j)
    (funext fun i => funext fun j => e1 i j)
    (funext fun i => funext fun j => e2 i j)
    (funext fun i => funext fun j => e3 i j)
    (funext fun j => e4 j)
    (funext fun i => funext fun j => e5 i j)
    (funext fun i => funext fun j => e6 i j)
    (funext fun j => e7 j)
    (funext fun i => funext fun j => e8 i j)
    (funext fun j => e9 j)
    (funext fun i => funext fun j => e10 i j)
    (funext fun i => funext fun j => e11 i j)

theorem tok_eq {P Q : Tok} (h0 : P.x = Q.x) (h1 : P.ya = Q.ya) (h2 : P.yb = Q.yb) (h3 : P.g = Q.g) (h4 : P.pe = Q.pe) : P = Q := by
  cases P
  cases Q
  cases h0
  cases h1
  cases h2
  cases h3
  cases h4
  rfl

set_option maxHeartbeats 1000000 in
theorem blocks_tok (t : Fin cfg0.N) (hd) (r : Fin 256) : (blocks m c t hd).tok r = (argsOf m c).tok (seq t) (place t r) := by
  have e0 : (fun l => (blocks m c t hd).x (ix2 r l)) = fun l => (argsOf m c).x (ix3 (seq t) (place t r) l) := funext fun l => read0 m c t r l
  have e1 : (fun l => (blocks m c t hd).ya (ix2 r l)) = fun l => (argsOf m c).ya (ix3 (seq t) (place t r) l) := funext fun l => read1 m c t r l
  have e2 : (fun l => (blocks m c t hd).yb (ix2 r l)) = fun l => (argsOf m c).yb (ix3 (seq t) (place t r) l) := funext fun l => read2 m c t r l
  have e3 : (fun l => (blocks m c t hd).g (ix2 r l)) = fun l => (argsOf m c).g (ix3 (seq t) (place t r) l) := funext fun l => read3 m c t r l
  have e4 : (fun l => (blocks m c t hd).pe (ix2 r l)) = fun l => (argsOf m c).pe (ix3 (seq t) (place t r) l) := funext fun l => read4 m c t r l
  generalize blocks m c t hd = Q at *
  generalize argsOf m c = A at *
  exact tok_eq e0 e1 e2 e3 e4
-- ==== Proof.FfnMerge.lean ====
module

public import proofs.«01_k».proof.Proof.FfnRead
public import proofs.«01_k».proof.Proof.FfnAct

/-!
A grid point's result is the reference's at the point's tokens.
-/

@[expose] public section

set_option maxRecDepth 16384

noncomputable section

namespace Cert.FfnIdeal.Block

open Idealize.ShloMosaic Idealize.ShloMosaic.TcCoe Idealize.SL.Sem
open Cert.FfnIdeal Cert.FfnIdeal.Gen

theorem halved_up (P : Par) (T : Tok) : (halved P).up T = P.up T := rfl

theorem halved_gate (P : Par) (u0 u1 u2 : Fin 6144 → EReal) (j : Fin 6144) (hj : j.val < 3072) :
    (halved P).conv u0 u1 u2 j = P.conv u0 u1 u2 j := by
  have h : half j = 1 := if_pos hj
  unfold Par.conv halved
  simp only [h, mul_one]

theorem halved_value (P : Par) (u0 u1 u2 : Fin 6144 → EReal) (j : Fin 6144) (hj : ¬j.val < 3072) :
    (halved P).conv u0 u1 u2 j = P.conv u0 u1 u2 j * ((1 / 2 : ℝ) : EReal) := by
  have h : half j = ((1 / 2 : ℝ) : EReal) := if_neg hj
  unfold Par.conv halved
  simp only [h]
  exact Cert.FfnAct.half_sum _ _ _ _ _ _ _

/-- The kernel's activations, the values' convolution halved beforehand, are the reference's. -/
theorem halved_act (P : Par) (u0 u1 u2 : Fin 6144 → EReal) (j : Fin 3072) :
    (halved P).act u0 u1 u2 j
      = Cert.FfnReferenceIdeal.Layer.gr (P.conv u0 u1 u2 ⟨j.val, by omega⟩) * P.conv u0 u1 u2 ⟨3072 + j.val, by omega⟩ := by
  unfold Par.act
  rw [halved_gate P u0 u1 u2 ⟨j.val, by omega⟩ j.isLt, halved_value P u0 u1 u2 ⟨3072 + j.val, by omega⟩ (by dsimp only; omega)]
  exact Cert.FfnAct.gk_half _ _

theorem halved_y (P : Par) (T : Tok) (a : Fin 3072 → EReal) : (halved P).y T a = P.y T a := rfl

/-- The carried rows that are read, as what they should be. -/
def Carried (A : Cert.FfnReferenceIdeal.Layer.Args) (b : Fin 16) (n : ℕ) (hn : n < 8) (hd : Fin 2 → Fin 6 → Vec Ideal S1x1x8x1024 .f32) : Prop :=
  (∀ (j : Fin 6) (l : Fin 1024), hd 0 j (ix4 0 0 0 l) = A.prev b ⟨256 * n, by omega⟩ 1 (col j l))
    ∧ (∀ (j : Fin 6) (l : Fin 1024), hd 1 j (ix4 0 0 0 l) = A.prev b ⟨256 * n, by omega⟩ 2 (col j l))
    ∧ (∀ (j : Fin 6) (l : Fin 1024), hd 1 j (ix4 0 0 1 l) = A.prev b ⟨256 * n + 1, by omega⟩ 2 (col j l))

variable (m : (ℓ : Loc nD τ sig) → Buf (Elt Ideal) ℓ) (c : Dev nD)

theorem blocks_up (t : Fin cfg0.N) (hd) (r : Fin 256) (j : Fin 6144) :
    (blocks m c t hd).par.up ((blocks m c t hd).tok r) j = (argsOf m c).par.up ((argsOf m c).tok (seq t) (place t r)) j := by
  rw [blocks_par, blocks_tok, halved_up]

theorem blocks_prev1 (t : Fin cfg0.N) (hd) (h : Carried (argsOf m c) (seq t) (t.val % 8) (by omega) hd) (r : Fin 256) (j : Fin 6144) :
    (blocks m c t hd).prev1 r j = (argsOf m c).prev (seq t) (place t r) 1 j := by
  unfold Blocks.prev1
  split
  · rename_i hr
    obtain ⟨r, hr'⟩ := r
    obtain rfl : r = 0 := by dsimp only at hr; omega
    exact (h.1 ⟨j.val / 1024, by omega⟩ ⟨j.val % 1024, by omega⟩).trans (by rw [col_surj]; rfl)
  · rename_i hr
    rw [blocks_up]
    unfold Cert.FfnReferenceIdeal.Layer.Args.prev
    rw [dif_neg (by show ¬256 * (t.val % 8) + r.val < 1; omega)]
    refine congrArg (fun s => (argsOf m c).par.up ((argsOf m c).tok (seq t) s) j) (Fin.ext ?_)
    show 256 * (t.val % 8) + (r.val - 1) = 256 * (t.val % 8) + r.val - 1
    omega

theorem blocks_prev2 (t : Fin cfg0.N) (hd) (h : Carried (argsOf m c) (seq t) (t.val % 8) (by omega) hd) (r : Fin 256) (j : Fin 6144) :
    (blocks m c t hd).prev2 r j = (argsOf m c).prev (seq t) (place t r) 2 j := by
  unfold Blocks.prev2
  split
  · rename_i hr
    obtain ⟨r, hr'⟩ := r
    obtain rfl | rfl : r = 0 ∨ r = 1 := by dsimp only at hr; omega
    · exact (h.2.1 ⟨j.val / 1024, by omega⟩ ⟨j.val % 1024, by omega⟩).trans (by rw [col_surj]; rfl)
    · exact (h.2.2 ⟨j.val / 1024, by omega⟩ ⟨j.val % 1024, by omega⟩).trans (by rw [col_surj]; rfl)
  · rename_i hr
    rw [blocks_up]
    unfold Cert.FfnReferenceIdeal.Layer.Args.prev
    rw [dif_neg (by show ¬256 * (t.val % 8) + r.val < 2; omega)]
    refine congrArg (fun s => (argsOf m c).par.up ((argsOf m c).tok (seq t) s) j) (Fin.ext ?_)
    show 256 * (t.val % 8) + (r.val - 2) = 256 * (t.val % 8) + r.val - 2
    omega

/-- With the right carried rows a point's result is the reference's. -/
theorem blocks_y (t : Fin cfg0.N) (hd) (h : Carried (argsOf m c) (seq t) (t.val % 8) (by omega) hd) (r : Fin 256) (l : Fin 1024) :
    (blocks m c t hd).y (ix2 r l) = Cert.FfnReferenceIdeal.Layer.y (argsOf m c) (ix2 (flat t r) l) := by
  have hact : (blocks m c t hd).act r = (argsOf m c).act (seq t) (place t r) := by
    have e0 : (blocks m c t hd).par.up ((blocks m c t hd).tok r) = (argsOf m c).par.up ((argsOf m c).tok (seq t) (place t r)) :=
      funext fun j => blocks_up m c t hd r j
    have e1 : (blocks m c t hd).prev1 r = (argsOf m c).prev (seq t) (place t r) 1 := funext fun j => blocks_prev1 m c t hd h r j
    have e2 : (blocks m c t hd).prev2 r = (argsOf m c).prev (seq t) (place t r) 2 := funext fun j => blocks_prev2 m c t hd h r j
    unfold Blocks.act
    rw [e0, e1, e2, blocks_par]
    exact funext fun j => halved_act _ _ _ _ j
  rw [Blocks.y_apply, hact, blocks_par, blocks_tok, halved_y]
  refine (Cert.FfnReferenceIdeal.Layer.y_apply (argsOf m c) (seq t) (place t r) (flat t r) ?_ l).symm
  show 256 * t.val + r.val = 2048 * (t.val / 8) + (256 * (t.val % 8) + r.val)
  omega
-- ==== Proof.FfnHead.lean ====
module

public import proofs.«01_k».proof.Proof.FfnMerge

/-!
The carried rows a grid point reads are the reference's earlier rows of the up projection.
-/

@[expose] public section

set_option maxRecDepth 16384

noncomputable section

namespace Cert.FfnIdeal.Block

open Idealize.ShloMosaic Idealize.ShloMosaic.TcCoe Idealize.SL.Sem
open Cert.FfnIdeal Cert.FfnIdeal.Gen

theorem pay_one (Y : Vec Ideal S1x8x6144 .f32) (r : Fin 8) (j : Fin 6144) : k0_pay2 Y (ix4 0 0 r j) = Y (ix3 0 r j) := by
  pointwise [k0_pay2]

theorem pay_two (Y : Vec Ideal S1x8x6144 .f32) (r : Fin 8) (j : Fin 6144) : k0_pay3 Y (ix4 0 0 r j) = Y (ix3 0 r j) := by
  pointwise [k0_pay3]

/-- A load of the first carried row after its store. -/
theorem first_one (X : Vec Ideal S1x16x6144 .f32) (L : List (View.Piece (Elt Ideal) S2x1x8x6144 .f32)) (o : ℕ)
    (inb : ∀ a, (![0, 0, 0, o] : Fin 4 → ℕ) a + (![1, 1, 8, 1024] : Fin 4 → ℕ) a ≤ S2x1x8x6144.size a)
    (r : Fin 8) (l : Fin 1024) (j : Fin 6144) (hj : j.val = o + l.val) :
    reread (storeOne X :: L) (Rect.unit (s := S2x1x8x6144) ![0, 0, 0, o] ![1, 1, 8, 1024] inb) (ix4 0 0 r l) = X (ix3 0 ⟨r.val, by omega⟩ j) := by
  have e : (Rect.unit (s := S2x1x8x6144) ![0, 0, 0, o] ![1, 1, 8, 1024] inb).idx (ix4 0 0 r l) = (storeOne X).1.emb (ix4 0 0 r j) := by
    funext a; apply Fin.ext
    fin_cases a
    · rfl
    · rfl
    · rfl
    · show o + 1 * l.val = 0 + 1 * j.val; omega
  unfold reread
  rw [View.readCov_eq_canon']
  refine (congrArg (View.canon (storeOne X :: L)) e).trans ((View.canon_cons_emb (storeOne X).1 (storeOne X).2 L (ix4 0 0 r j)).trans ?_)
  refine (pay_one _ r j).trans (View.ld_unit_apply_of X _ _ _ _ _ fun a => ?_)
  fin_cases a
  · rfl
  · show r.val = 0 + r.val; omega
  · show j.val = 0 + j.val; omega

/-- A load of the second after its store. -/
theorem first_two (X : Vec Ideal S1x16x6144 .f32) (L : List (View.Piece (Elt Ideal) S2x1x8x6144 .f32)) (o : ℕ)
    (inb : ∀ a, (![1, 0, 0, o] : Fin 4 → ℕ) a + (![1, 1, 8, 1024] : Fin 4 → ℕ) a ≤ S2x1x8x6144.size a)
    (r : Fin 8) (l : Fin 1024) (j : Fin 6144) (hj : j.val = o + l.val) :
    reread (storeTwo X :: L) (Rect.unit (s := S2x1x8x6144) ![1, 0, 0, o] ![1, 1, 8, 1024] inb) (ix4 0 0 r l) = X (ix3 0 ⟨8 + r.val, by omega⟩ j) := by
  have e : (Rect.unit (s := S2x1x8x6144) ![1, 0, 0, o] ![1, 1, 8, 1024] inb).idx (ix4 0 0 r l) = (storeTwo X).1.emb (ix4 0 0 r j) := by
    funext a; apply Fin.ext
    fin_cases a
    · rfl
    · rfl
    · rfl
    · show o + 1 * l.val = 0 + 1 * j.val; omega
  unfold reread
  rw [View.readCov_eq_canon']
  refine (congrArg (View.canon (storeTwo X :: L)) e).trans ((View.canon_cons_emb (storeTwo X).1 (storeTwo X).2 L (ix4 0 0 r j)).trans ?_)
  refine (pay_two _ r j).trans (View.ld_unit_apply_of X _ _ _ _ _ fun a => ?_)
  fin_cases a
  · rfl
  · show 8 + r.val = 8 + r.val; rfl
  · show j.val = 0 + j.val; omega

theorem col_at (j : Fin 6) (l : Fin 1024) (o : ℕ) (h : o = 1024 * j.val) : (col j l).val = o + l.val := by
  subst h
  rfl

/-- A fact of each of six entries. -/
theorem six {α : Type} (a0 a1 a2 a3 a4 a5 : α) (p : Fin 6 → α → Prop) (h0 : p 0 a0) (h1 : p 1 a1) (h2 : p 2 a2) (h3 : p 3 a3) (h4 : p 4 a4)
    (h5 : p 5 a5) : ∀ j : Fin 6, p j ((![a0, a1, a2, a3, a4, a5] : Fin 6 → α) j) := by
  intro j
  fin_cases j <;> assumption

theorem headFirst_one (X : Vec Ideal S1x16x6144 .f32) (j : Fin 6) (r : Fin 8) (l : Fin 1024) :
    headFirst X 0 j (ix4 0 0 r l) = X (ix3 0 ⟨r.val, by omega⟩ (col j l)) := by
  unfold headFirst
  simp only [Matrix.cons_val_zero]
  exact six _ _ _ _ _ _ (fun j (a : Vec Ideal S1x1x8x1024 .f32) => a (ix4 0 0 r l) = X (ix3 0 ⟨r.val, by omega⟩ (col j l)))
    (first_one X [] 0 _ r l (col 0 l) (col_at 0 l 0 rfl))
    (first_one X [] 1024 _ r l (col 1 l) (col_at 1 l 1024 rfl))
    (first_one X [] 2048 _ r l (col 2 l) (col_at 2 l 2048 rfl))
    (first_one X [] 3072 _ r l (col 3 l) (col_at 3 l 3072 rfl))
    (first_one X [] 4096 _ r l (col 4 l) (col_at 4 l 4096 rfl))
    (first_one X [] 5120 _ r l (col 5 l) (col_at 5 l 5120 rfl)) j

theorem headFirst_two (X : Vec Ideal S1x16x6144 .f32) (j : Fin 6) (r : Fin 8) (l : Fin 1024) :
    headFirst X 1 j (ix4 0 0 r l) = X (ix3 0 ⟨8 + r.val, by omega⟩ (col j l)) := by
  unfold headFirst
  simp only [Matrix.cons_val_one, Matrix.cons_val_zero]
  exact six _ _ _ _ _ _ (fun j (a : Vec Ideal S1x1x8x1024 .f32) => a (ix4 0 0 r l) = X (ix3 0 ⟨8 + r.val, by omega⟩ (col j l)))
    (first_two X [storeOne X] 0 _ r l (col 0 l) (col_at 0 l 0 rfl))
    (first_two X [storeOne X] 1024 _ r l (col 1 l) (col_at 1 l 1024 rfl))
    (first_two X [storeOne X] 2048 _ r l (col 2 l) (col_at 2 l 2048 rfl))
    (first_two X [storeOne X] 3072 _ r l (col 3 l) (col_at 3 l 3072 rfl))
    (first_two X [storeOne X] 4096 _ r l (col 4 l) (col_at 4 l 4096 rfl))
    (first_two X [storeOne X] 5120 _ r l (col 5 l) (col_at 5 l 5120 rfl)) j

/-- The carried rows after a point: the last rows of its up projection. -/
def headRows (u : Fin 6 → FVec Ideal S256x1024 .f32) : Fin 2 → Fin 6 → Vec Ideal S1x1x8x1024 .f32 :=
  ![![carried 1#32 (u 0), carried 1#32 (u 1), carried 1#32 (u 2), carried 1#32 (u 3), carried 1#32 (u 4), carried 1#32 (u 5)],
    ![carried 2#32 (u 0), carried 2#32 (u 1), carried 2#32 (u 2), carried 2#32 (u 3), carried 2#32 (u 4), carried 2#32 (u 5)]]

theorem headRows_one (u : Fin 6 → FVec Ideal S256x1024 .f32) (j : Fin 6) (r : Fin 8) (l : Fin 1024) :
    headRows u 0 j (ix4 0 0 r l) = u j (ix2 ⟨248 + (r.val + 7) % 8, by omega⟩ l) := by
  fin_cases j <;> exact carried_one _ r l

theorem headRows_two (u : Fin 6 → FVec Ideal S256x1024 .f32) (j : Fin 6) (r : Fin 8) (l : Fin 1024) :
    headRows u 1 j (ix4 0 0 r l) = u j (ix2 ⟨248 + (r.val + 6) % 8, by omega⟩ l) := by
  fin_cases j <;> exact carried_two _ r l

variable (m : (ℓ : Loc nD τ sig) → Buf (Elt Ideal) ℓ) (c : Dev nD)

theorem carried_first (t : Fin cfg0.N) (h0 : t.val % 8 = 0) : Carried (argsOf m c) (seq t) (t.val % 8) (by omega) (headFirst (iblk m c 5 t)) := by
  have e0 : ∀ h, (⟨256 * (t.val % 8), h⟩ : Fin 2048) = 0 := fun h => Fin.ext (by show 256 * (t.val % 8) = 0; omega)
  have e1 : ∀ h, (⟨256 * (t.val % 8) + 1, h⟩ : Fin 2048) = 1 := fun h => Fin.ext (by show 256 * (t.val % 8) + 1 = 1; omega)
  refine ⟨fun j l => ?_, fun j l => ?_, fun j l => ?_⟩
  · rw [e0, headFirst_one]
    exact (read5 m c t _ _).trans (heads_first _ _ _)
  · rw [e0, headFirst_two]
    exact (read5 m c t _ _).trans (heads_second _ _ 0 _)
  · rw [e1, headFirst_two]
    exact (read5 m c t _ _).trans (heads_second _ _ 1 _)

/-- What a point leaves in the carried rows, unless it ends a sequence. -/
theorem head_left (t : Fin cfg0.N) (h1 : ¬t.val % 8 = 7) (hd) :
    headOf (outsAt0 m c t.val t.isLt).2.2 = headRows (blocks m c t hd).up := by
  by_cases h0 : t.val % 8 = 0
  · exact head_A m c t hd h0 h1
  · exact head_B m c t hd h0 h1

theorem carried_next (t : Fin cfg0.N) (h0 : ¬t.val % 8 = 0) : Carried (argsOf m c) (seq t) (t.val % 8) (by omega) (headOf (left m c t)) := by
  have ht : t.val - 1 < cfg0.N := lt_of_le_of_lt (Nat.sub_le _ _) t.isLt
  have hs : seq ⟨t.val - 1, ht⟩ = seq t := Fin.ext (by show (t.val - 1) / 8 = t.val / 8; omega)
  have hp (r : Fin 256) (s : Fin 2048) (h : 256 * (t.val % 8) + r.val = s.val + 256) : place ⟨t.val - 1, ht⟩ r = s :=
    Fin.ext (by show 256 * ((t.val - 1) % 8) + r.val = s.val; omega)
  have hl : headOf (left m c t) = headRows (blocks m c ⟨t.val - 1, ht⟩ (headFirst (iblk m c 5 t))).up :=
    head_left m c ⟨t.val - 1, ht⟩ (by show ¬(t.val - 1) % 8 = 7; omega) _
  rw [hl]
  refine ⟨fun j l => ?_, fun j l => ?_, fun j l => ?_⟩
  · rw [headRows_one, Blocks.up_apply, blocks_up, hs]
    unfold Cert.FfnReferenceIdeal.Layer.Args.prev
    rw [dif_neg (by show ¬256 * (t.val % 8) < 1; omega), hp _ ⟨256 * (t.val % 8) - 1, by omega⟩ (by show 256 * (t.val % 8) + (248 + (0 + 7) % 8) = 256 * (t.val % 8) - 1 + 256; omega)]
    rfl
  · rw [headRows_two, Blocks.up_apply, blocks_up, hs]
    unfold Cert.FfnReferenceIdeal.Layer.Args.prev
    rw [dif_neg (by show ¬256 * (t.val % 8) < 2; omega), hp _ ⟨256 * (t.val % 8) - 2, by omega⟩ (by show 256 * (t.val % 8) + (248 + (0 + 6) % 8) = 256 * (t.val % 8) - 2 + 256; omega)]
    rfl
  · rw [headRows_two, Blocks.up_apply, blocks_up, hs]
    unfold Cert.FfnReferenceIdeal.Layer.Args.prev
    rw [dif_neg (by show ¬256 * (t.val % 8) + 1 < 2; omega), hp _ ⟨256 * (t.val % 8) + 1 - 2, by omega⟩ (by show 256 * (t.val % 8) + (248 + (1 + 6) % 8) = 256 * (t.val % 8) + 1 - 2 + 256; omega)]
    rfl

/-- What a point leaves in its block of the result. -/
theorem point_y (t : Fin cfg0.N) (r : Fin 256) (l : Fin 1024) :
    (outsAt0 m c t.val t.isLt).1 (ix2 r l) = Cert.FfnReferenceIdeal.Layer.y (argsOf m c) (ix2 (flat t r) l) := by
  by_cases h0 : t.val % 8 = 0
  · rw [y_A m c t h0 (by omega)]
    exact blocks_y m c t _ (carried_first m c t h0) r l
  · by_cases h1 : t.val % 8 = 7
    · rw [y_C m c t h0 h1]
      exact blocks_y m c t _ (carried_next m c t h0) r l
    · rw [y_B m c t h0 h1]
      exact blocks_y m c t _ (carried_next m c t h0) r l
-- ==== Proof.FfnRun.lean ====
module

public import proofs.«01_k».proof.Proof.FfnHead
public import proofs.«01_k».proof.Proof.Gen.FfnIdeal.Value

/-!
The feed-forward call's result is the layer's.
-/

@[expose] public section

set_option maxRecDepth 16384

noncomputable section

namespace Cert.FfnReferenceIdeal.Layer

open Idealize.ShloMosaic Idealize.ShloMosaic.TcCoe Idealize.SL.Sem
open Cert.FfnReferenceIdeal

/-- The arguments as a device holds them. -/
def argsAt (m : (ℓ : Loc nD τ sig) → Buf (Elt Ideal) ℓ) (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11),
    m ((c : Thread nD τ).loc main_arg12), m ((c : Thread nD τ).loc main_arg13), m ((c : Thread nD τ).loc main_arg14), m ((c : Thread nD τ).loc main_arg15),
    m ((c : Thread nD τ).loc main_arg16), m ((c : Thread nD τ).loc main_arg17)⟩

end Cert.FfnReferenceIdeal.Layer

namespace Cert.FfnIdeal.Block

open Idealize.ShloMosaic Idealize.ShloMosaic.TcCoe Idealize.SL.Sem
open Cert.FfnIdeal Cert.FfnIdeal.Gen Cert.FfnIdeal.Value

variable (m : (ℓ : Loc nD τ sig) → Buf (Elt Ideal) ℓ) (c : Dev nD)

/-- The result's array, put together from its blocks. -/
theorem result_y : (G18 m c : FVec Ideal S32768x1024 .f32) = Cert.FfnReferenceIdeal.Layer.y (argsOf m c) := by
  funext i
  have h0 : (i 0).val < 32768 := (i 0).isLt
  have h1 : (i 1).val < 1024 := (i 1).isLt
  have hp : pt18Of i = (i 0).val / 256 := by show 1 * ((i 0).val / 256 - 0) + 1 * ((i 1).val / 1024 - 0) = _; omega
  have ht : pt18Of i < cfg0.N := by rw [hp]; exact lt_of_lt_of_eq (by omega) (show 128 = cfg0.N from N_0.symm)
  unfold G18
  rw [dif_pos ht, ← outsAt0_sweep m c (pt18Of i) ht]
  have hl : loc18Of i = ix2 ⟨(i 0).val % 256, Nat.mod_lt _ (by decide)⟩ ⟨(i 1).val % 1024, Nat.mod_lt _ (by decide)⟩ := by
    funext a; fin_cases a <;> rfl
  rw [hl]
  refine (point_y m c ⟨pt18Of i, ht⟩ _ _).trans (congrArg _ ?_)
  funext a; apply Fin.ext
  fin_cases a
  · show 256 * pt18Of i + (i 0).val % 256 = (i 0).val
    rw [hp]; omega
  · show (i 1).val % 1024 = (i 1).val
    omega

end Cert.FfnIdeal.Block
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Run
public import proofs.«01_k».proof.Proof.RefScore
public import proofs.«01_k».proof.Proof.Finite
public import proofs.«01_k».proof.Proof.FfnRun
public import Idealize.ShloMosaic.Adequacy
public import Idealize.ShloMosaic.Init

@[expose] public section

noncomputable section

namespace Cert.Proof

open Idealize.ShloMosaic Idealize.SL.Sem Cert.Kernel

/-- The reference leaves its arguments as they were, with no semaphore to end elsewhere than at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) : θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3))
        ∧ r.2.sem = fun _ => 0) :=
  (θ_run Cert.ReferenceIdeal.defs _ _).mono (fun r h => ⟨fun c => (h c).2, sem_eq_zero_of_no_sems (by decide) r.2⟩) (Cert.ReferenceIdeal.Value.run m g)

/-- The reference ends with its result at the layer's attention of the arguments, whose scores are finite. -/
theorem attention_run : Cert.algebraic_KernelIdeal_ReferenceIdeal_pre_finite_scores := by
  intro m g m' g' hpre hargs
  refine ⟨_, Cert.KernelIdeal.Attn.run m g, (θ_run Cert.ReferenceIdeal.defs _ _).mono (fun r h c => ⟨?_, (h c).2⟩) (Cert.ReferenceIdeal.Value.run m' g')⟩
  obtain ⟨hq, hk, ht⟩ := Cert.Attn.finite_of_pre _ _ _ _ (hpre c)
  refine (h c).1.trans ((Cert.ReferenceIdeal.Attn.res_eq m' c).trans ?_)
  rw [(hargs c).1, (hargs c).2.1, (hargs c).2.2.1, (hargs c).2.2.2]
  funext y
  exact (congrArg _ (eq_ix3 y)).trans (Cert.ReferenceIdeal.Attn.output_eq _ _ _ _ hq hk ht (y 0) (y 1) (y 2))

/-- So does the feed-forward call's reference. -/
theorem ffn_reference_frame (m : (ℓ : Loc Cert.FfnReferenceIdeal.nD Cert.FfnReferenceIdeal.τ Cert.FfnReferenceIdeal.sig) → Buf (Elt Ideal) ℓ)
    (g : Dev Cert.FfnReferenceIdeal.nD → PrngReg) : θ_run (Cert.FfnReferenceIdeal.defs (F := Ideal)) (onTc (τ := Cert.FfnReferenceIdeal.τ) (Cert.FfnReferenceIdeal.main (F := Ideal)))
      ⟨m, fun _ => 0, g⟩ (fun r => (∀ c : Dev Cert.FfnReferenceIdeal.nD,
        r.2.mem ((c.tc : Thread _ _).loc Cert.FfnReferenceIdeal.main_arg0) = m ((c.tc : Thread _ _).loc Cert.FfnReferenceIdeal.main_arg0)
        ∧ r.2.mem ((c.tc : Thread _ _).loc Cert.FfnReferenceIdeal.main_arg1) = m ((c.tc : Thread _ _).loc Cert.FfnReferenceIdeal.main_arg1)
        ∧ r.2.mem ((c.tc : Thread _ _).loc Cert.FfnReferenceIdeal.main_arg2) = m ((c.tc : Thread _ _).loc Cert.FfnReferenceIdeal.main_arg2)
        ∧ r.2.mem ((c.tc : Thread _ _).loc Cert.FfnReferenceIdeal.main_arg3) = m ((c.tc : Thread _ _).loc Cert.FfnReferenceIdeal.main_arg3)
        ∧ r.2.mem ((c.tc : Thread _ _).loc Cert.FfnReferenceIdeal.main_arg4) = m ((c.tc : Thread _ _).loc Cert.FfnReferenceIdeal.main_arg4)
        ∧ r.2.mem ((c.tc : Thread _ _).loc Cert.FfnReferenceIdeal.main_arg5) = m ((c.tc : Thread _ _).loc Cert.FfnReferenceIdeal.main_arg5)
        ∧ r.2.mem ((c.tc : Thread _ _).loc Cert.FfnReferenceIdeal.main_arg6) = m ((c.tc : Thread _ _).loc Cert.FfnReferenceIdeal.main_arg6)
        ∧ r.2.mem ((c.tc : Thread _ _).loc Cert.FfnReferenceIdeal.main_arg7) = m ((c.tc : Thread _ _).loc Cert.FfnReferenceIdeal.main_arg7)
        ∧ r.2.mem ((c.tc : Thread _ _).loc Cert.FfnReferenceIdeal.main_arg8) = m ((c.tc : Thread _ _).loc Cert.FfnReferenceIdeal.main_arg8)
        ∧ r.2.mem ((c.tc : Thread _ _).loc Cert.FfnReferenceIdeal.main_arg9) = m ((c.tc : Thread _ _).loc Cert.FfnReferenceIdeal.main_arg9)
        ∧ r.2.mem ((c.tc : Thread _ _).loc Cert.FfnReferenceIdeal.main_arg10) = m ((c.tc : Thread _ _).loc Cert.FfnReferenceIdeal.main_arg10)
        ∧ r.2.mem ((c.tc : Thread _ _).loc Cert.FfnReferenceIdeal.main_arg11) = m ((c.tc : Thread _ _).loc Cert.FfnReferenceIdeal.main_arg11)
        ∧ r.2.mem ((c.tc : Thread _ _).loc Cert.FfnReferenceIdeal.main_arg12) = m ((c.tc : Thread _ _).loc Cert.FfnReferenceIdeal.main_arg12)
        ∧ r.2.mem ((c.tc : Thread _ _).loc Cert.FfnReferenceIdeal.main_arg13) = m ((c.tc : Thread _ _).loc Cert.FfnReferenceIdeal.main_arg13)
        ∧ r.2.mem ((c.tc : Thread _ _).loc Cert.FfnReferenceIdeal.main_arg14) = m ((c.tc : Thread _ _).loc Cert.FfnReferenceIdeal.main_arg14)
        ∧ r.2.mem ((c.tc : Thread _ _).loc Cert.FfnReferenceIdeal.main_arg15) = m ((c.tc : Thread _ _).loc Cert.FfnReferenceIdeal.main_arg15)
        ∧ r.2.mem ((c.tc : Thread _ _).loc Cert.FfnReferenceIdeal.main_arg16) = m ((c.tc : Thread _ _).loc Cert.FfnReferenceIdeal.main_arg16)
        ∧ r.2.mem ((c.tc : Thread _ _).loc Cert.FfnReferenceIdeal.main_arg17) = m ((c.tc : Thread _ _).loc Cert.FfnReferenceIdeal.main_arg17))
        ∧ r.2.sem = fun _ => 0) :=
  (θ_run Cert.FfnReferenceIdeal.defs _ _).mono (fun r h => ⟨fun c => (h c).2, sem_eq_zero_of_no_sems (by decide) r.2⟩) (Cert.FfnReferenceIdeal.Value.run m g)

/-- The two programs' arguments agree. -/
theorem ffn_args (m : (ℓ : Loc Cert.FfnIdeal.nD Cert.FfnIdeal.τ Cert.FfnIdeal.sig) → Buf (Elt Ideal) ℓ)
    (m' : (ℓ : Loc Cert.FfnReferenceIdeal.nD Cert.FfnReferenceIdeal.τ Cert.FfnReferenceIdeal.sig) → Buf (Elt Ideal) ℓ) (c : Dev Cert.FfnIdeal.nD)
    (h0 : m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0))
    (h1 : m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1))
    (h2 : m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2))
    (h3 : m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3))
    (h4 : m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4))
    (h5 : m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5))
    (h6 : m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6))
    (h7 : m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7))
    (h8 : m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8))
    (h9 : m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9))
    (h10 : m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10))
    (h11 : m' ((c.tc : Thread Cert.FfnReferenceIdeal.nD Cert.FfnReferenceIdeal.τ).loc Cert.FfnReferenceIdeal.main_arg11) = m ((c.tc : Thread Cert.FfnIdeal.nD Cert.FfnIdeal.τ).loc Cert.FfnIdeal.main_arg11))
    (h12 : m' ((c.tc : Thread Cert.FfnReferenceIdeal.nD Cert.FfnReferenceIdeal.τ).loc Cert.FfnReferenceIdeal.main_arg12) = m ((c.tc : Thread Cert.FfnIdeal.nD Cert.FfnIdeal.τ).loc Cert.FfnIdeal.main_arg12))
    (h13 : m' ((c.tc : Thread Cert.FfnReferenceIdeal.nD Cert.FfnReferenceIdeal.τ).loc Cert.FfnReferenceIdeal.main_arg13) = m ((c.tc : Thread Cert.FfnIdeal.nD Cert.FfnIdeal.τ).loc Cert.FfnIdeal.main_arg13))
    (h14 : m' ((c.tc : Thread Cert.FfnReferenceIdeal.nD Cert.FfnReferenceIdeal.τ).loc Cert.FfnReferenceIdeal.main_arg14) = m ((c.tc : Thread Cert.FfnIdeal.nD Cert.FfnIdeal.τ).loc Cert.FfnIdeal.main_arg14))
    (h15 : m' ((c.tc : Thread Cert.FfnReferenceIdeal.nD Cert.FfnReferenceIdeal.τ).loc Cert.FfnReferenceIdeal.main_arg15) = m ((c.tc : Thread Cert.FfnIdeal.nD Cert.FfnIdeal.τ).loc Cert.FfnIdeal.main_arg15))
    (h16 : m' ((c.tc : Thread Cert.FfnReferenceIdeal.nD Cert.FfnReferenceIdeal.τ).loc Cert.FfnReferenceIdeal.main_arg16) = m ((c.tc : Thread Cert.FfnIdeal.nD Cert.FfnIdeal.τ).loc Cert.FfnIdeal.main_arg16))
    (h17 : m' ((c.tc : Thread Cert.FfnReferenceIdeal.nD Cert.FfnReferenceIdeal.τ).loc Cert.FfnReferenceIdeal.main_arg17) = m ((c.tc : Thread Cert.FfnIdeal.nD Cert.FfnIdeal.τ).loc Cert.FfnIdeal.main_arg17)) :
    Cert.FfnReferenceIdeal.Layer.argsAt m' c = Cert.FfnIdeal.Block.argsOf m c := by
  unfold Cert.FfnReferenceIdeal.Layer.argsAt Cert.FfnIdeal.Block.argsOf
  rw [h0, h1, h2, h3, h4, h5, h6, h7, h8, h9, h10, h11, h12, h13, h14, h15, h16, h17]

/-- The feed-forward call ends with its result at the layer's. -/
theorem ffn_run : Cert.algebraic_FfnIdeal_FfnReferenceIdeal := by
  intro m g m' g' _ hargs
  refine ⟨_, (θ_run Cert.FfnIdeal.defs _ _).mono (fun r h c => ⟨(h c).1.trans (Cert.FfnIdeal.Block.result_y m c), (h c).2.2⟩) (Cert.FfnIdeal.Value.run m g),
    (θ_run Cert.FfnReferenceIdeal.defs _ _).mono (fun r h c => ⟨?_, (h c).2⟩) (Cert.FfnReferenceIdeal.Value.run m' g')⟩
  obtain ⟨h0, h1, h2, h3, h4, h5, h6, h7, h8, h9, h10, h11, h12, h13, h14, h15, h16, h17⟩ := hargs c
  exact (h c).1.trans (Eq.trans (b := Cert.FfnReferenceIdeal.Layer.y (Cert.FfnReferenceIdeal.Layer.argsAt m' c)) rfl
    (congrArg Cert.FfnReferenceIdeal.Layer.y (ffn_args m m' c h0 h1 h2 h3 h4 h5 h6 h7 h8 h9 h10 h11 h12 h13 h14 h15 h16 h17)))

theorem claim : Cert.Claim := ⟨Cert.Kernel.Gen.facts, Cert.KernelIdeal.Gen.facts, Cert.ReferenceIdeal.Gen.facts, Cert.Ffn.Gen.facts, Cert.FfnIdeal.Gen.facts,
  Cert.FfnReferenceIdeal.Gen.facts, Cert.Pre_finite_scores.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  fun m g _ => Cert.Ffn.Gen.frame m g,
  fun m g _ => Cert.FfnIdeal.Gen.frame m g,
  fun m g _ => ffn_reference_frame m g,
  IdealRules.named_const.statement Cert.KernelIdeal.κ "mask" .f32 0xF149F2CA#32 ⊥ rfl,
  attention_run,
  IdealRules.named_const.statement Cert.FfnIdeal.κ "cube" .f32 0x3D122279#32 _ rfl,
  ffn_run⟩

end Cert.Proof

end
